-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v33)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v33) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v13_0)) (v1 : (c : Dev Cert.MergeIdeal.nD) → Buf (Elt Ideal) ((c.tc : Thread Cert.MergeIdeal.nD Cert.MergeIdeal.τ).loc Cert.MergeIdeal.main_v13_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13_0) = v0 c
          ∧ r.2.mem ((c.tc : Thread Cert.MergeIdeal.nD Cert.MergeIdeal.τ).loc Cert.MergeIdeal.main_v13_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v50) = v0 c
          ∧ r.2.mem ((c.tc : Thread Cert.MergeRefIdeal.nD Cert.MergeRefIdeal.τ).loc Cert.MergeRefIdeal.main_v69) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
-- ==== Pre_finite_scores.lean ====
abbrev S2x16384x8x64 : Shape := ⟨4, ![2, 16384, 8, 64]⟩
abbrev S2x16384x2x64 : Shape := ⟨4, ![2, 16384, 2, 64]⟩
abbrev S2x256x2x64 : Shape := ⟨4, ![2, 256, 2, 64]⟩
abbrev S8 : Shape := ⟨1, ![8]⟩
abbrev S_ : Shape := ⟨0, ![]⟩

class Facts : Prop where
  bcast_S_S2x16384x8x64 : S_.BroadcastsInDim S2x16384x8x64 (![] : Fin 0 → Fin S2x16384x8x64.rank)
  reducesTo_S2x16384x8x64_S_d0_1_2_3 : S2x16384x8x64.ReducesTo [0, 1, 2, 3] S_
  h_S_ : 0 < S_.numel
  bcast_S_S2x16384x2x64 : S_.BroadcastsInDim S2x16384x2x64 (![] : Fin 0 → Fin S2x16384x2x64.rank)
  reducesTo_S2x16384x2x64_S_d0_1_2_3 : S2x16384x2x64.ReducesTo [0, 1, 2, 3] S_
  bcast_S_S2x256x2x64 : S_.BroadcastsInDim S2x256x2x64 (![] : Fin 0 → Fin S2x256x2x64.rank)
  reducesTo_S2x256x2x64_S_d0_1_2_3 : S2x256x2x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S2x16384x8x64 .f32) (main_arg1 : FVec F S2x16384x2x64 .f32) (main_arg2 : FVec F S2x16384x2x64 .f32) (main_arg3 : FVec F S2x256x2x64 .f32) (main_arg4 : FVec F S2x256x2x64 .f32) (main_arg5 : FVec F S8 .f32) : IVec S_ 1 :=
  let main_v0 : FVec F S2x16384x8x64 .f32 := Host.absf main_arg0
  let main_cst : FVec F S_ .f32 := constant S_ .f32 0x7F800000#32
  let main_v1 : FVec F S2x16384x8x64 .f32 := broadcastInDim S2x16384x8x64 ![] bcast_S_S2x16384x8x64 main_cst
  let main_v2 : IVec S2x16384x8x64 1 := cmpf .olt main_v0 main_v1
  let main_c : IVec S_ 1 := constantI S_ 1 1#1
  let main_v3 : IVec S_ 1 := (fun x v => Host.reduce IntOp.andi x v reducesTo_S2x16384x8x64_S_d0_1_2_3 h_S_) main_v2 main_c
  let main_v4 : FVec F S2x16384x2x64 .f32 := Host.absf main_arg1
  let main_cst_0 : FVec F S_ .f32 := constant S_ .f32 0x7F800000#32
  let main_v5 : FVec F S2x16384x2x64 .f32 := broadcastInDim S2x16384x2x64 ![] bcast_S_S2x16384x2x64 main_cst_0
  let main_v6 : IVec S2x16384x2x64 1 := cmpf .olt main_v4 main_v5
  let main_c_1 : IVec S_ 1 := constantI S_ 1 1#1
  let main_v7 : IVec S_ 1 := (fun x v => Host.reduce IntOp.andi x v reducesTo_S2x16384x2x64_S_d0_1_2_3 h_S_) main_v6 main_c_1
  let main_v8 : IVec S_ 1 := andi main_v3 main_v7
  let main_v9 : FVec F S2x256x2x64 .f32 := Host.absf main_arg3
  let main_cst_2 : FVec F S_ .f32 := constant S_ .f32 0x7F800000#32
  let main_v10 : FVec F S2x256x2x64 .f32 := broadcastInDim S2x256x2x64 ![] bcast_S_S2x256x2x64 main_cst_2
  let main_v11 : IVec S2x256x2x64 1 := cmpf .olt main_v9 main_v10
  let main_c_3 : IVec S_ 1 := constantI S_ 1 1#1
  let main_v12 : IVec S_ 1 := (fun x v => Host.reduce IntOp.andi x v reducesTo_S2x256x2x64_S_d0_1_2_3 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S2x16384x8x64 : Shape := ⟨4, ![2, 16384, 8, 64]⟩
abbrev S2x16384x2x64 : Shape := ⟨4, ![2, 16384, 2, 64]⟩
abbrev S2x256x2x64 : Shape := ⟨4, ![2, 256, 2, 64]⟩
abbrev S8 : Shape := ⟨1, ![8]⟩
abbrev S2x16384x512 : Shape := ⟨3, ![2, 16384, 512]⟩
abbrev S_ : Shape := ⟨0, ![]⟩
abbrev S2x16384x128 : Shape := ⟨3, ![2, 16384, 128]⟩
abbrev S2x256x128 : Shape := ⟨3, ![2, 256, 128]⟩
abbrev S2x16384x8704 : Shape := ⟨3, ![2, 16384, 8704]⟩
abbrev S2x256x8704 : Shape := ⟨3, ![2, 256, 8704]⟩
abbrev S1x128x512 : Shape := ⟨3, ![1, 128, 512]⟩
abbrev S1x128x128 : Shape := ⟨3, ![1, 128, 128]⟩
abbrev S1x256x128 : Shape := ⟨3, ![1, 256, 128]⟩
abbrev S128x512 : Shape := ⟨2, ![128, 512]⟩
abbrev S128x128 : Shape := ⟨2, ![128, 128]⟩
abbrev S384x128 : Shape := ⟨2, ![384, 128]⟩
abbrev S256x128 : Shape := ⟨2, ![256, 128]⟩
abbrev S128x384 : Shape := ⟨2, ![128, 384]⟩
abbrev S128x64 : Shape := ⟨2, ![128, 64]⟩
abbrev S384x64 : Shape := ⟨2, ![384, 64]⟩
abbrev S256x64 : Shape := ⟨2, ![256, 64]⟩
abbrev S128x256 : Shape := ⟨2, ![128, 256]⟩
abbrev S1 : Shape := ⟨1, ![1]⟩
abbrev S128 : Shape := ⟨1, ![128]⟩
abbrev S128x1 : Shape := ⟨2, ![128, 1]⟩
abbrev S1x128x64 : Shape := ⟨3, ![1, 128, 64]⟩

abbrev nBuf : Space → Nat
  | .hbm => 24
  | .vmem => 20
  | .smem => 1
  | _ => 0

abbrev bufTy : (tb : Table) → Fin (tcTables nBuf tb) → BufTy
  | .hbm, ⟨0, _⟩ => ⟨S2x16384x8x64, .f32⟩
  | .hbm, ⟨1, _⟩ => ⟨S2x16384x2x64, .f32⟩
  | .hbm, ⟨2, _⟩ => ⟨S2x16384x2x64, .f32⟩
  | .hbm, ⟨3, _⟩ => ⟨S2x256x2x64, .f32⟩
  | .hbm, ⟨4, _⟩ => ⟨S2x256x2x64, .f32⟩
  | .hbm, ⟨5, _⟩ => ⟨S8, .f32⟩
  | .hbm, ⟨6, _⟩ => ⟨S2x16384x512, .f32⟩
  | .hbm, ⟨7, _⟩ => ⟨S_, .f32⟩
  | .hbm, ⟨8, _⟩ => ⟨S2x16384x512, .f32⟩
  | .hbm, ⟨9, _⟩ => ⟨S2x16384x512, .f32⟩
  | .hbm, ⟨10, _⟩ => ⟨S2x16384x512, .bf16⟩
  | .hbm, ⟨11, _⟩ => ⟨S2x16384x128, .f32⟩
  | .hbm, ⟨12, _⟩ => ⟨S2x16384x128, .bf16⟩
  | .hbm, ⟨13, _⟩ => ⟨S2x256x128, .f32⟩
  | .hbm, ⟨14, _⟩ => ⟨S2x256x128, .bf16⟩
  | .hbm, ⟨15, _⟩ => ⟨S2x16384x128, .f32⟩
  | .hbm, ⟨16, _⟩ => ⟨S2x16384x128, .bf16⟩
  | .hbm, ⟨17, _⟩ => ⟨S_, .bf16⟩
  | .hbm, ⟨18, _⟩ => ⟨S2x16384x8704, .bf16⟩
  | .hbm, ⟨19, _⟩ => ⟨S2x256x128, .f32⟩
  | .hbm, ⟨20, _⟩ => ⟨S2x256x128, .bf16⟩
  | .hbm, ⟨21, _⟩ => ⟨S_, .bf16⟩
  | .hbm, ⟨22, _⟩ => ⟨S2x256x8704, .bf16⟩
  | .hbm, ⟨23, _⟩ => ⟨S2x16384x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x128x512, .bf16⟩
  | .local _ .vmem, ⟨19, _⟩ => ⟨S1x128x512, .bf16⟩
  | .local _ .smem, ⟨0, _⟩ => ⟨S8, .f32⟩
  | _, _ => ⟨S2x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 128], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c127_i32 : BitVec 32 := 127#32
  let v1 : BitVec 32 := Scalar.minsi v0 c127_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c65_i32 : BitVec 32 := 65#32
  let c0_i32_0 : BitVec 32 := 0#32
  ![arg0.toNat, v1.toNat, c65_i32.toNat]

def cc0_transform_6 (i : grid0.Coords) : Fin 3 → Nat :=
  let arg0 : BitVec 32 := BitVec.ofNat 32 (i 0).val
  let arg1 : BitVec 32 := BitVec.ofNat 32 (i 1).val
  let c65_i32 : BitVec 32 := 65#32
  let c0_i32 : BitVec 32 := 0#32
  ![arg0.toNat, arg1.toNat, c65_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c127_i32 : BitVec 32 := 127#32
  let v1 : BitVec 32 := Scalar.minsi v0 c127_i32
  let c65_i32 : BitVec 32 := 65#32
  let c0_i32 : BitVec 32 := 0#32
  ![arg0.toNat, v1.toNat, c65_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c65_i32 : BitVec 32 := 65#32
  let c0_i32_0 : BitVec 32 := 0#32
  ![arg0.toNat, c0_i32.toNat, c65_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x16384x8x64 : Shape := ⟨4, ![2, 16384, 8, 64]⟩
abbrev S2x16384x2x64 : Shape := ⟨4, ![2, 16384, 2, 64]⟩
abbrev S2x256x2x64 : Shape := ⟨4, ![2, 256, 2, 64]⟩
abbrev S8 : Shape := ⟨1, ![8]⟩
abbrev S2x128x128x2x4x64 : Shape := ⟨6, ![2, 128, 128, 2, 4, 64]⟩
abbrev S_ : Shape := ⟨0, ![]⟩
abbrev S2x16640x2x64 : Shape := ⟨4, ![2, 16640, 2, 64]⟩
abbrev S2x130x128x2x64 : Shape := ⟨5, ![2, 130, 128, 2, 64]⟩
abbrev S2x128x128x2x64 : Shape := ⟨5, ![2, 128, 128, 2, 64]⟩
abbrev S2x128x384x2x64 : Shape := ⟨5, ![2, 128, 384, 2, 64]⟩
abbrev S128 : Shape := ⟨1, ![128]⟩
abbrev S128x1x1 : Shape := ⟨3, ![128, 1, 1]⟩
abbrev S1x128x1 : Shape := ⟨3, ![1, 128, 1]⟩
abbrev S128x128x1 : Shape := ⟨3, ![128, 128, 1]⟩
abbrev S384 : Shape := ⟨1, ![384]⟩
abbrev S1x1x384 : Shape := ⟨3, ![1, 1, 384]⟩
abbrev S128x1x384 : Shape := ⟨3, ![128, 1, 384]⟩
abbrev S128x128x384 : Shape := ⟨3, ![128, 128, 384]⟩
abbrev S2x128x2x384x128x4 : Shape := ⟨6, ![2, 128, 2, 384, 128, 4]⟩
abbrev S2x128x2x4x128x384 : Shape := ⟨6, ![2, 128, 2, 4, 128, 384]⟩
abbrev S1x128x1x1x128x384 : Shape := ⟨6, ![1, 128, 1, 1, 128, 384]⟩
abbrev S2x2x256x128x128x4 : Shape := ⟨6, ![2, 2, 256, 128, 128, 4]⟩
abbrev S2x128x2x4x128x256 : Shape := ⟨6, ![2, 128, 2, 4, 128, 256]⟩
abbrev S2x4x1x1 : Shape := ⟨4, ![2, 4, 1, 1]⟩
abbrev S2x128x2x4x128x1 : Shape := ⟨6, ![2, 128, 2, 4, 128, 1]⟩
abbrev S2x128x2x4x128x641 : Shape := ⟨6, ![2, 128, 2, 4, 128, 641]⟩
abbrev S2x128x2x4x128 : Shape := ⟨5, ![2, 128, 2, 4, 128]⟩
abbrev S2x128x2x64x4x128 : Shape := ⟨6, ![2, 128, 2, 64, 4, 128]⟩
abbrev S2x2x64x128x4x128 : Shape := ⟨6, ![2, 2, 64, 128, 4, 128]⟩
abbrev S2x16384x512 : Shape := ⟨3, ![2, 16384, 512]⟩

abbrev nBuf : Space → Nat
  | .hbm => 105
  | .vmem => 0
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x2x64, .f32⟩
  | .hbm, ⟨2, _⟩ => ⟨S2x16384x2x64, .f32⟩
  | .hbm, ⟨3, _⟩ => ⟨S2x256x2x64, .f32⟩
  | .hbm, ⟨4, _⟩ => ⟨S2x256x2x64, .f32⟩
  | .hbm, ⟨5, _⟩ => ⟨S8, .f32⟩
  | .hbm, ⟨6, _⟩ => ⟨S2x128x128x2x4x64, .f32⟩
  | .hbm, ⟨7, _⟩ => ⟨S_, .i32⟩
  | .hbm, ⟨8, _⟩ => ⟨S_, .f32⟩
  | .hbm, ⟨9, _⟩ => ⟨S2x16640x2x64, .f32⟩
  | .hbm, ⟨10, _⟩ => ⟨S2x130x128x2x64, .f32⟩
  | .hbm, ⟨11, _⟩ => ⟨S2x128x128x2x64, .f32⟩
  | .hbm, ⟨12, _⟩ => ⟨S2x128x128x2x64, .f32⟩
  | .hbm, ⟨13, _⟩ => ⟨S2x128x128x2x64, .f32⟩
  | .hbm, ⟨14, _⟩ => ⟨S2x128x384x2x64, .f32⟩
  | .hbm, ⟨15, _⟩ => ⟨S_, .i32⟩
  | .hbm, ⟨16, _⟩ => ⟨S_, .f32⟩
  | .hbm, ⟨17, _⟩ => ⟨S2x16640x2x64, .f32⟩
  | .hbm, ⟨18, _⟩ => ⟨S2x130x128x2x64, .f32⟩
  | .hbm, ⟨19, _⟩ => ⟨S2x128x128x2x64, .f32⟩
  | .hbm, ⟨20, _⟩ => ⟨S2x128x128x2x64, .f32⟩
  | .hbm, ⟨21, _⟩ => ⟨S2x128x128x2x64, .f32⟩
  | .hbm, ⟨22, _⟩ => ⟨S2x128x384x2x64, .f32⟩
  | .hbm, ⟨23, _⟩ => ⟨S128, .i32⟩
  | .hbm, ⟨24, _⟩ => ⟨S128x1x1, .i32⟩
  | .hbm, ⟨25, _⟩ => ⟨S_, .i32⟩
  | .hbm, ⟨26, _⟩ => ⟨S128x1x1, .i32⟩
  | .hbm, ⟨27, _⟩ => ⟨S128x1x1, .i32⟩
  | .hbm, ⟨28, _⟩ => ⟨S128, .i32⟩
  | .hbm, ⟨29, _⟩ => ⟨S1x128x1, .i32⟩
  | .hbm, ⟨30, _⟩ => ⟨S128x128x1, .i32⟩
  | .hbm, ⟨31, _⟩ => ⟨S128x128x1, .i32⟩
  | .hbm, ⟨32, _⟩ => ⟨S128x128x1, .i32⟩
  | .hbm, ⟨33, _⟩ => ⟨S128, .i32⟩
  | .hbm, ⟨34, _⟩ => ⟨S128x1x1, .i32⟩
  | .hbm, ⟨35, _⟩ => ⟨S_, .i32⟩
  | .hbm, ⟨36, _⟩ => ⟨S128x1x1, .i32⟩
  | .hbm, ⟨37, _⟩ => ⟨S128x1x1, .i32⟩
  | .hbm, ⟨38, _⟩ => ⟨S_, .i32⟩
  | .hbm, ⟨39, _⟩ => ⟨S128x1x1, .i32⟩
  | .hbm, ⟨40, _⟩ => ⟨S128x1x1, .i32⟩
  | .hbm, ⟨41, _⟩ => ⟨S384, .i32⟩
  | .hbm, ⟨42, _⟩ => ⟨S1x1x384, .i32⟩
  | .hbm, ⟨43, _⟩ => ⟨S128x1x384, .i32⟩
  | .hbm, ⟨44, _⟩ => ⟨S128x1x384, .i32⟩
  | .hbm, ⟨45, _⟩ => ⟨S128x1x384, .i32⟩
  | .hbm, ⟨46, _⟩ => ⟨S128x128x384, .i32⟩
  | .hbm, ⟨47, _⟩ => ⟨S128x128x384, .i32⟩
  | .hbm, ⟨48, _⟩ => ⟨S128x128x384, .i32⟩
  | .hbm, ⟨49, _⟩ => ⟨S128x128x384, .i32⟩
  | .hbm, ⟨50, _⟩ => ⟨S_, .i32⟩
  | .hbm, ⟨51, _⟩ => ⟨S128x128x384, .i32⟩
  | .hbm, ⟨52, _⟩ => ⟨S128x128x384, .i1⟩
  | .hbm, ⟨53, _⟩ => ⟨S_, .i32⟩
  | .hbm, ⟨54, _⟩ => ⟨S128x1x384, .i32⟩
  | .hbm, ⟨55, _⟩ => ⟨S128x1x384, .i1⟩
  | .hbm, ⟨56, _⟩ => ⟨S128x128x384, .i1⟩
  | .hbm, ⟨57, _⟩ => ⟨S128x128x384, .i1⟩
  | .hbm, ⟨58, _⟩ => ⟨S_, .i32⟩
  | .hbm, ⟨59, _⟩ => ⟨S128x1x384, .i32⟩
  | .hbm, ⟨60, _⟩ => ⟨S128x1x384, .i1⟩
  | .hbm, ⟨61, _⟩ => ⟨S128x128x384, .i1⟩
  | .hbm, ⟨62, _⟩ => ⟨S128x128x384, .i1⟩
  | .hbm, ⟨63, _⟩ => ⟨S2x128x2x384x128x4, .f32⟩
  | .hbm, ⟨64, _⟩ => ⟨S2x128x2x4x128x384, .f32⟩
  | .hbm, ⟨65, _⟩ => ⟨S_, .f32⟩
  | .hbm, ⟨66, _⟩ => ⟨S2x128x2x4x128x384, .f32⟩
  | .hbm, ⟨67, _⟩ => ⟨S2x128x2x4x128x384, .f32⟩
  | .hbm, ⟨68, _⟩ => ⟨S1x128x1x1x128x384, .i1⟩
  | .hbm, ⟨69, _⟩ => ⟨S_, .f32⟩
  | .hbm, ⟨70, _⟩ => ⟨S_, .f32⟩
  | .hbm, ⟨71, _⟩ => ⟨S2x128x2x4x128x384, .i1⟩
  | .hbm, ⟨72, _⟩ => ⟨S2x128x2x4x128x384, .f32⟩
  | .hbm, ⟨73, _⟩ => ⟨S2x128x2x4x128x384, .f32⟩
  | .hbm, ⟨74, _⟩ => ⟨S2x2x256x128x128x4, .f32⟩
  | .hbm, ⟨75, _⟩ => ⟨S2x128x2x4x128x256, .f32⟩
  | .hbm, ⟨76, _⟩ => ⟨S_, .f32⟩
  | .hbm, ⟨77, _⟩ => ⟨S2x128x2x4x128x256, .f32⟩
  | .hbm, ⟨78, _⟩ => ⟨S2x128x2x4x128x256, .f32⟩
  | .hbm, ⟨79, _⟩ => ⟨S2x4x1x1, .f32⟩
  | .hbm, ⟨80, _⟩ => ⟨S2x128x2x4x128x1, .f32⟩
  | .hbm, ⟨81, _⟩ => ⟨S2x128x2x4x128x641, .f32⟩
  | .hbm, ⟨82, _⟩ => ⟨S_, .f32⟩
  | .hbm, ⟨83, _⟩ => ⟨S2x128x2x4x128, .f32⟩
  | .hbm, ⟨84, _⟩ => ⟨S_, .f32⟩
  | .hbm, ⟨85, _⟩ => ⟨S2x128x2x4x128, .f32⟩
  | .hbm, ⟨86, _⟩ => ⟨S2x128x2x4x128, .f32⟩
  | .hbm, ⟨87, _⟩ => ⟨S2x128x2x4x128x1, .f32⟩
  | .hbm, ⟨88, _⟩ => ⟨S2x128x2x4x128x641, .f32⟩
  | .hbm, ⟨89, _⟩ => ⟨S2x128x2x4x128x641, .f32⟩
  | .hbm, ⟨90, _⟩ => ⟨S2x128x2x4x128x641, .f32⟩
  | .hbm, ⟨91, _⟩ => ⟨S_, .f32⟩
  | .hbm, ⟨92, _⟩ => ⟨S2x128x2x4x128, .f32⟩
  | .hbm, ⟨93, _⟩ => ⟨S2x128x2x4x128x1, .f32⟩
  | .hbm, ⟨94, _⟩ => ⟨S2x128x2x4x128x641, .f32⟩
  | .hbm, ⟨95, _⟩ => ⟨S2x128x2x4x128x641, .f32⟩
  | .hbm, ⟨96, _⟩ => ⟨S2x128x2x4x128x384, .f32⟩
  | .hbm, ⟨97, _⟩ => ⟨S2x128x2x64x4x128, .f32⟩
  | .hbm, ⟨98, _⟩ => ⟨S2x128x128x2x4x64, .f32⟩
  | .hbm, ⟨99, _⟩ => ⟨S2x128x2x4x128x256, .f32⟩
  | .hbm, ⟨100, _⟩ => ⟨S2x2x64x128x4x128, .f32⟩
  | .hbm, ⟨101, _⟩ => ⟨S2x128x128x2x4x64, .f32⟩
  | .hbm, ⟨102, _⟩ => ⟨S2x128x128x2x4x64, .f32⟩
  | .hbm, ⟨103, _⟩ => ⟨S2x16384x512, .f32⟩
  | .hbm, ⟨104, _⟩ => ⟨S2x16384x512, .bf16⟩
  | _, _ => ⟨S2x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Proj.lean ====
abbrev S2x16384x1024 : Shape := ⟨3, ![2, 16384, 1024]⟩
abbrev S1024 : Shape := ⟨1, ![1024]⟩
abbrev S2x1x1024 : Shape := ⟨3, ![2, 1, 1024]⟩
abbrev S1024x8480 : Shape := ⟨2, ![1024, 8480]⟩
abbrev S1024x1024 : Shape := ⟨2, ![1024, 1024]⟩
abbrev S1024x512 : Shape := ⟨2, ![1024, 512]⟩
abbrev S1024x128 : Shape := ⟨2, ![1024, 128]⟩
abbrev S1024x32 : Shape := ⟨2, ![1024, 32]⟩
abbrev S_ : Shape := ⟨0, ![]⟩
abbrev S1024x224 : Shape := ⟨2, ![1024, 224]⟩
abbrev S1024x8704 : Shape := ⟨2, ![1024, 8704]⟩
abbrev S1x1024 : Shape := ⟨2, ![1, 1024]⟩
abbrev S2x16384x8704 : Shape := ⟨3, ![2, 16384, 8704]⟩
abbrev S1x512x1024 : Shape := ⟨3, ![1, 512, 1024]⟩
abbrev S1x1x1024 : Shape := ⟨3, ![1, 1, 1024]⟩
abbrev S1024x2176 : Shape := ⟨2, ![1024, 2176]⟩
abbrev S1x512x2176 : Shape := ⟨3, ![1, 512, 2176]⟩
abbrev S512x1024 : Shape := ⟨2, ![512, 1024]⟩
abbrev S512 : Shape := ⟨1, ![512]⟩
abbrev S512x1 : Shape := ⟨2, ![512, 1]⟩
abbrev S512x2176 : Shape := ⟨2, ![512, 2176]⟩
abbrev S2x16384x128 : Shape := ⟨3, ![2, 16384, 128]⟩
abbrev S2x16384x512 : Shape := ⟨3, ![2, 16384, 512]⟩
abbrev S2x16384x32 : Shape := ⟨3, ![2, 16384, 32]⟩
abbrev S2x16384x8480 : Shape := ⟨3, ![2, 16384, 8480]⟩

abbrev nBuf : Space → Nat
  | .hbm => 40
  | .vmem => 11
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x8480, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x128, .f32⟩
  | .hbm, ⟨17, _⟩ => ⟨S1024x128, .f32⟩
  | .hbm, ⟨18, _⟩ => ⟨S1024x32, .f32⟩
  | .hbm, ⟨19, _⟩ => ⟨S_, .f32⟩
  | .hbm, ⟨20, _⟩ => ⟨S1024x224, .f32⟩
  | .hbm, ⟨21, _⟩ => ⟨S1024x8704, .f32⟩
  | .hbm, ⟨22, _⟩ => ⟨S1024x8704, .bf16⟩
  | .hbm, ⟨23, _⟩ => ⟨S1x1024, .f32⟩
  | .hbm, ⟨24, _⟩ => ⟨S2x16384x8704, .bf16⟩
  | .hbm, ⟨25, _⟩ => ⟨S2x16384x128, .bf16⟩
  | .hbm, ⟨26, _⟩ => ⟨S2x16384x128, .bf16⟩
  | .hbm, ⟨27, _⟩ => ⟨S2x16384x512, .bf16⟩
  | .hbm, ⟨28, _⟩ => ⟨S2x16384x512, .bf16⟩
  | .hbm, ⟨29, _⟩ => ⟨S2x16384x512, .bf16⟩
  | .hbm, ⟨30, _⟩ => ⟨S2x16384x1024, .bf16⟩
  | .hbm, ⟨31, _⟩ => ⟨S2x16384x32, .bf16⟩
  | .hbm, ⟨32, _⟩ => ⟨S2x16384x512, .bf16⟩
  | .hbm, ⟨33, _⟩ => ⟨S2x16384x512, .bf16⟩
  | .hbm, ⟨34, _⟩ => ⟨S2x16384x512, .bf16⟩
  | .hbm, ⟨35, _⟩ => ⟨S2x16384x1024, .bf16⟩
  | .hbm, ⟨36, _⟩ => ⟨S2x16384x1024, .bf16⟩
  | .hbm, ⟨37, _⟩ => ⟨S2x16384x1024, .bf16⟩
  | .hbm, ⟨38, _⟩ => ⟨S2x16384x1024, .bf16⟩
  | .hbm, ⟨39, _⟩ => ⟨S2x16384x8480, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2176, .bf16⟩
  | .local _ .vmem, ⟨8, _⟩ => ⟨S1024x2176, .bf16⟩
  | .local _ .vmem, ⟨9, _⟩ => ⟨S1x512x2176, .bf16⟩
  | .local _ .vmem, ⟨10, _⟩ => ⟨S1x512x2176, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x2176 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x2176 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ProjRefIdeal.lean ====
abbrev S2x16384x1024 : Shape := ⟨3, ![2, 16384, 1024]⟩
abbrev S1024 : Shape := ⟨1, ![1024]⟩
abbrev S2x1x1024 : Shape := ⟨3, ![2, 1, 1024]⟩
abbrev S1024x8480 : Shape := ⟨2, ![1024, 8480]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x8480 : Shape := ⟨3, ![2, 16384, 8480]⟩

abbrev nBuf : Space → Nat
  | .hbm => 30
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x8480, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x8480, .f32⟩
  | .hbm, ⟨29, _⟩ => ⟨S2x16384x8480, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Merge.lean ====
abbrev S2x16384x512 : Shape := ⟨3, ![2, 16384, 512]⟩
abbrev S2x16384x4x256 : Shape := ⟨4, ![2, 16384, 4, 256]⟩
abbrev S2x16384x1024 : Shape := ⟨3, ![2, 16384, 1024]⟩
abbrev S2x16384x3072 : Shape := ⟨3, ![2, 16384, 3072]⟩
abbrev S2x1x1024 : Shape := ⟨3, ![2, 1, 1024]⟩
abbrev S1024 : Shape := ⟨1, ![1024]⟩
abbrev S256 : Shape := ⟨1, ![256]⟩
abbrev S512x1024 : Shape := ⟨2, ![512, 1024]⟩
abbrev S1024x1024 : Shape := ⟨2, ![1024, 1024]⟩
abbrev S2x16384x4096 : Shape := ⟨3, ![2, 16384, 4096]⟩
abbrev S_ : Shape := ⟨0, ![]⟩
abbrev S2x16384x8704 : Shape := ⟨3, ![2, 16384, 8704]⟩
abbrev S1x1024 : Shape := ⟨2, ![1, 1024]⟩
abbrev S1x256 : Shape := ⟨2, ![1, 256]⟩
abbrev S1x256x512 : Shape := ⟨3, ![1, 256, 512]⟩
abbrev S1x256x1024 : Shape := ⟨3, ![1, 256, 1024]⟩
abbrev S1x1x1024 : Shape := ⟨3, ![1, 1, 1024]⟩
abbrev S256x1024 : Shape := ⟨2, ![256, 1024]⟩
abbrev S256x256 : Shape := ⟨2, ![256, 256]⟩
abbrev S256x1 : Shape := ⟨2, ![256, 1]⟩
abbrev S256x512 : Shape := ⟨2, ![256, 512]⟩

abbrev nBuf : Space → Nat
  | .hbm => 32
  | .vmem => 34
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x4x256, .f32⟩
  | .hbm, ⟨3, _⟩ => ⟨S2x16384x4x256, .f32⟩
  | .hbm, ⟨4, _⟩ => ⟨S2x16384x1024, .f32⟩
  | .hbm, ⟨5, _⟩ => ⟨S2x16384x3072, .f32⟩
  | .hbm, ⟨6, _⟩ => ⟨S2x16384x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S1024, .f32⟩
  | .hbm, ⟨11, _⟩ => ⟨S256, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024x1024, .f32⟩
  | .hbm, ⟨16, _⟩ => ⟨S2x16384x4096, .f32⟩
  | .hbm, ⟨17, _⟩ => ⟨S2x16384x4096, .bf16⟩
  | .hbm, ⟨18, _⟩ => ⟨S_, .bf16⟩
  | .hbm, ⟨19, _⟩ => ⟨S2x16384x8704, .bf16⟩
  | .hbm, ⟨20, _⟩ => ⟨S1x1024, .f32⟩
  | .hbm, ⟨21, _⟩ => ⟨S1x256, .f32⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S1024x1024, .bf16⟩
  | .hbm, ⟨26, _⟩ => ⟨S2x16384x512, .bf16⟩
  | .hbm, ⟨27, _⟩ => ⟨S2x16384x512, .bf16⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .f32⟩
  | .local _ .vmem, ⟨17, _⟩ => ⟨S1x256x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | .local _ .vmem, ⟨25, _⟩ => ⟨S1x256, .f32⟩
  | .local _ .vmem, ⟨26, _⟩ => ⟨S512x1024, .bf16⟩
  | .local _ .vmem, ⟨27, _⟩ => ⟨S512x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1x256x1024, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MergeRefIdeal.lean ====
abbrev S2x16384x512 : Shape := ⟨3, ![2, 16384, 512]⟩
abbrev S2x16384x4x256 : Shape := ⟨4, ![2, 16384, 4, 256]⟩
abbrev S2x16384x1024 : Shape := ⟨3, ![2, 16384, 1024]⟩
abbrev S2x16384x3072 : Shape := ⟨3, ![2, 16384, 3072]⟩
abbrev S2x1x1024 : Shape := ⟨3, ![2, 1, 1024]⟩
abbrev S1024 : Shape := ⟨1, ![1024]⟩
abbrev S256 : Shape := ⟨1, ![256]⟩
abbrev S512x1024 : Shape := ⟨2, ![512, 1024]⟩
abbrev S1024x1024 : Shape := ⟨2, ![1024, 1024]⟩
abbrev S_ : Shape := ⟨0, ![]⟩
abbrev S2x16384x4 : Shape := ⟨3, ![2, 16384, 4]⟩
abbrev S2x16384x4x1 : Shape := ⟨4, ![2, 16384, 4, 1]⟩
abbrev S1x1x1x256 : Shape := ⟨4, ![1, 1, 1, 256]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x4x256, .f32⟩
  | .hbm, ⟨3, _⟩ => ⟨S2x16384x4x256, .f32⟩
  | .hbm, ⟨4, _⟩ => ⟨S2x16384x1024, .f32⟩
  | .hbm, ⟨5, _⟩ => ⟨S2x16384x3072, .f32⟩
  | .hbm, ⟨6, _⟩ => ⟨S2x16384x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S1024, .f32⟩
  | .hbm, ⟨11, _⟩ => ⟨S256, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024x1024, .f32⟩
  | .hbm, ⟨16, _⟩ => ⟨S2x16384x4x256, .f32⟩
  | .hbm, ⟨17, _⟩ => ⟨S2x16384x4x256, .f32⟩
  | .hbm, ⟨18, _⟩ => ⟨S_, .f32⟩
  | .hbm, ⟨19, _⟩ => ⟨S2x16384x4, .f32⟩
  | .hbm, ⟨20, _⟩ => ⟨S2x16384x4x1, .f32⟩
  | .hbm, ⟨21, _⟩ => ⟨S_, .f32⟩
  | .hbm, ⟨22, _⟩ => ⟨S2x16384x4x1, .f32⟩
  | .hbm, ⟨23, _⟩ => ⟨S2x16384x4x1, .f32⟩
  | .hbm, ⟨24, _⟩ => ⟨S_, .f32⟩
  | .hbm, ⟨25, _⟩ => ⟨S2x16384x4x1, .f32⟩
  | .hbm, ⟨26, _⟩ => ⟨S2x16384x4x1, .f32⟩
  | .hbm, ⟨27, _⟩ => ⟨S2x16384x4x1, .f32⟩
  | .hbm, ⟨28, _⟩ => ⟨S2x16384x4x256, .f32⟩
  | .hbm, ⟨29, _⟩ => ⟨S2x16384x4x256, .f32⟩
  | .hbm, ⟨30, _⟩ => ⟨S1x1x1x256, .f32⟩
  | .hbm, ⟨31, _⟩ => ⟨S2x16384x4x256, .f32⟩
  | .hbm, ⟨32, _⟩ => ⟨S2x16384x4x256, .f32⟩
  | .hbm, ⟨33, _⟩ => ⟨S2x16384x4x256, .f32⟩
  | .hbm, ⟨34, _⟩ => ⟨S2x16384x4x256, .f32⟩
  | .hbm, ⟨35, _⟩ => ⟨S2x16384x4x256, .f32⟩
  | .hbm, ⟨36, _⟩ => ⟨S_, .f32⟩
  | .hbm, ⟨37, _⟩ => ⟨S2x16384x4x256, .f32⟩
  | .hbm, ⟨38, _⟩ => ⟨S2x16384x4x256, .f32⟩
  | .hbm, ⟨39, _⟩ => ⟨S_, .f32⟩
  | .hbm, ⟨40, _⟩ => ⟨S2x16384x4x256, .f32⟩
  | .hbm, ⟨41, _⟩ => ⟨S2x16384x4x256, .f32⟩
  | .hbm, ⟨42, _⟩ => ⟨S2x16384x4x256, .f32⟩
  | .hbm, ⟨43, _⟩ => ⟨S2x16384x4x256, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | .hbm, ⟨47, _⟩ => ⟨S2x16384x1024, .f32⟩
  | .hbm, ⟨48, _⟩ => ⟨S2x16384x1024, .f32⟩
  | .hbm, ⟨49, _⟩ => ⟨S2x16384x1024, .f32⟩
  | .hbm, ⟨50, _⟩ => ⟨S_, .f32⟩
  | .hbm, ⟨51, _⟩ => ⟨S2x16384x1024, .f32⟩
  | .hbm, ⟨52, _⟩ => ⟨S2x16384x1024, .f32⟩
  | .hbm, ⟨53, _⟩ => ⟨S_, .f32⟩
  | .hbm, ⟨54, _⟩ => ⟨S2x16384x1024, .f32⟩
  | .hbm, ⟨55, _⟩ => ⟨S2x16384x1024, .f32⟩
  | .hbm, ⟨56, _⟩ => ⟨S2x16384x1024, .f32⟩
  | .hbm, ⟨57, _⟩ => ⟨S2x16384x1024, .f32⟩
  | .hbm, ⟨58, _⟩ => ⟨S2x16384x1024, .f32⟩
  | .hbm, ⟨59, _⟩ => ⟨S2x16384x1024, .f32⟩
  | .hbm, ⟨60, _⟩ => ⟨S_, .f32⟩
  | .hbm, ⟨61, _⟩ => ⟨S2x16384x1024, .f32⟩
  | .hbm, ⟨62, _⟩ => ⟨S2x16384x1024, .f32⟩
  | .hbm, ⟨63, _⟩ => ⟨S_, .f32⟩
  | .hbm, ⟨64, _⟩ => ⟨S2x16384x1024, .f32⟩
  | .hbm, ⟨65, _⟩ => ⟨S2x16384x1024, .f32⟩
  | .hbm, ⟨66, _⟩ => ⟨S2x16384x1024, .f32⟩
  | .hbm, ⟨67, _⟩ => ⟨S2x16384x1024, .f32⟩
  | .hbm, ⟨68, _⟩ => ⟨S2x16384x1024, .f32⟩
  | .hbm, ⟨69, _⟩ => ⟨S2x16384x1024, .f32⟩
  | .hbm, ⟨70, _⟩ => ⟨S2x16384x1024, .f32⟩
  | .hbm, ⟨71, _⟩ => ⟨S_, .f32⟩
  | .hbm, ⟨72, _⟩ => ⟨S2x16384x1024, .f32⟩
  | .hbm, ⟨73, _⟩ => ⟨S2x16384x1024, .f32⟩
  | .hbm, ⟨74, _⟩ => ⟨S_, .f32⟩
  | .hbm, ⟨75, _⟩ => ⟨S2x16384x1024, .f32⟩
  | .hbm, ⟨76, _⟩ => ⟨S2x16384x1024, .f32⟩
  | .hbm, ⟨77, _⟩ => ⟨S2x16384x1024, .f32⟩
  | .hbm, ⟨78, _⟩ => ⟨S2x16384x1024, .f32⟩
  | .hbm, ⟨79, _⟩ => ⟨S2x16384x1024, .f32⟩
  | .hbm, ⟨80, _⟩ => ⟨S2x16384x1024, .f32⟩
  | .hbm, ⟨81, _⟩ => ⟨S2x16384x1024, .f32⟩
  | .hbm, ⟨82, _⟩ => ⟨S2x16384x1024, .f32⟩
  | .hbm, ⟨83, _⟩ => ⟨S2x16384x1024, .f32⟩
  | .hbm, ⟨84, _⟩ => ⟨S2x16384x1024, .f32⟩
  | .hbm, ⟨85, _⟩ => ⟨S_, .f32⟩
  | .hbm, ⟨86, _⟩ => ⟨S2x16384, .f32⟩
  | .hbm, ⟨87, _⟩ => ⟨S2x16384x1, .f32⟩
  | .hbm, ⟨88, _⟩ => ⟨S_, .f32⟩
  | .hbm, ⟨89, _⟩ => ⟨S2x16384x1, .f32⟩
  | .hbm, ⟨90, _⟩ => ⟨S2x16384x1, .f32⟩
  | .hbm, ⟨91, _⟩ => ⟨S_, .f32⟩
  | .hbm, ⟨92, _⟩ => ⟨S2x16384x1, .f32⟩
  | .hbm, ⟨93, _⟩ => ⟨S2x16384x1, .f32⟩
  | .hbm, ⟨94, _⟩ => ⟨S2x16384x1, .f32⟩
  | .hbm, ⟨95, _⟩ => ⟨S2x16384x1024, .f32⟩
  | .hbm, ⟨96, _⟩ => ⟨S2x16384x1024, .f32⟩
  | .hbm, ⟨97, _⟩ => ⟨S1x1x1024, .f32⟩
  | .hbm, ⟨98, _⟩ => ⟨S2x16384x1024, .f32⟩
  | .hbm, ⟨99, _⟩ => ⟨S2x16384x1024, .f32⟩
  | .hbm, ⟨100, _⟩ => ⟨S_, .f32⟩
  | .hbm, ⟨101, _⟩ => ⟨S2x1x1024, .f32⟩
  | .hbm, ⟨102, _⟩ => ⟨S2x1x1024, .f32⟩
  | .hbm, ⟨103, _⟩ => ⟨S2x16384x1024, .f32⟩
  | .hbm, ⟨104, _⟩ => ⟨S2x16384x1024, .f32⟩
  | .hbm, ⟨105, _⟩ => ⟨S2x16384x1024, .f32⟩
  | .hbm, ⟨106, _⟩ => ⟨S2x16384x1024, .f32⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_2 : Ref sig .tc := ⟨.hbm, 50, rfl⟩
abbrev main_v23 : Ref sig .tc := ⟨.hbm, 51, rfl⟩
abbrev main_v24 : Ref sig .tc := ⟨.hbm, 52, rfl⟩
abbrev main_cst_3 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_4 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_cst_7 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_8 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_v55 : Ref sig .tc := ⟨.hbm, 90, rfl⟩
abbrev main_cst_10 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩

abbrev nD : Nat := 1
abbrev τ : Topo := Topo.v7x

variable {F : FTy → Type} [FloatOps F]
-- ==== Proof.NormProj.Norm.lean ====
/-
  A row of activations, normalised by its root mean square, scaled and shifted.
-/
module

public import Idealize.ShloMosaic.Lib.Pointwise

@[expose] public section

noncomputable section

namespace Cert.Norm

open Idealize.ShloMosaic

/-- Feature `k` of a row of 1024: over the root of the mean square (and a small constant), times the weight, times one plus the scale, plus the shift. -/
def modRow (x g sh sc : Fin 1024 → EReal) (k : Fin 1024) : EReal :=
  x k * Ideal.rsqrt (Ideal.div (∑ j : Fin 1024, x j * x j) (Ideal.ofBits FTy.f32 0x44800000#32) + Ideal.ofBits FTy.f32 0x358637BD#32) * g k
      * (1 + sc k) + sh k

end Cert.Norm

end
-- ==== Proof.NormProj.Pay.lean ====
/-
  What the body stores, read at an index.
-/
module

public import proofs.«01_k».proof.Proof.NormProj.Norm
public import proofs.«01_k».proof.Proof.Gen.ProjIdeal.Frame
public import proofs.«01_k».proof.Proof.Gen.ProjRefIdeal.Read
public import Idealize.ShloMosaic.Lib.Pipeline.ValueKit
public import Idealize.ShloMosaic.Lib.Pipeline.ValueKit.Point
public import Idealize.ShloMosaic.Lib.KernelVsHost

@[expose] public section

noncomputable section

namespace Cert.ProjIdeal.NormProj

open Cert.ProjIdeal Cert.ProjIdeal.Gen Idealize.ShloMosaic Idealize.ShloMosaic.TcCoe Cert.Norm

theorem pay_apply (v0 : Vec Ideal S1x512x1024 .f32) (v2 : Vec Ideal S1x1024 .f32) (v4 v6 : Vec Ideal S1x1x1024 .f32) (v27 : Vec Ideal S1024x2176 .bf16)
    (r : Fin 512) (q : Fin 2176) :
    k0_pay1 (F := Ideal) v0 v2 v4 v6 v27 (ix3 0 r q)
      = ∑ k : Fin 1024, modRow (fun j => v0 (ix3 0 r j)) (fun j => v2 (ix2 0 j)) (fun j => v4 (ix3 0 0 j)) (fun j => v6 (ix3 0 0 j)) k * v27 (ix2 k q) := by
  unfold modRow
  pointwise [k0_pay1]

theorem ref_apply (x0 : (⟨Cert.ProjRefIdeal.S2x16384x1024, .f32⟩ : BufTy).Contents (Elt Ideal)) (x1 : (⟨Cert.ProjRefIdeal.S1024, .f32⟩ : BufTy).Contents (Elt Ideal))
    (x2 x3 : (⟨Cert.ProjRefIdeal.S2x1x1024, .f32⟩ : BufTy).Contents (Elt Ideal)) (b : Fin 2) (s : Fin 16384) (k : Fin 1024) :
    Cert.ProjRefIdeal.Read.val_main_v18 (F := Ideal) x0 x1 x2 x3 (ix3 b s k)
      = modRow (fun j => x0 (ix3 b s j)) (fun j => x1 (ix1 j)) (fun j => x2 (ix3 b 0 j)) (fun j => x3 (ix3 b 0 j)) k := by
  unfold modRow
  pointwise [Cert.ProjRefIdeal.Read.val_main_v18, Cert.ProjRefIdeal.Read.val_main_v17, Cert.ProjRefIdeal.Read.val_main_v16, Cert.ProjRefIdeal.Read.val_main_v15,
    Cert.ProjRefIdeal.Read.val_main_v14, Cert.ProjRefIdeal.Read.val_main_v13, Cert.ProjRefIdeal.Read.val_main_v12, Cert.ProjRefIdeal.Read.val_main_v11,
    Cert.ProjRefIdeal.Read.val_main_v10, Cert.ProjRefIdeal.Read.val_main_v9, Cert.ProjRefIdeal.Read.val_main_v8, Cert.ProjRefIdeal.Read.val_main_v7,
    Cert.ProjRefIdeal.Read.val_main_v6, Cert.ProjRefIdeal.Read.val_main_v5, Cert.ProjRefIdeal.Read.val_main_v4, Cert.ProjRefIdeal.Read.val_main_v3,
    Cert.ProjRefIdeal.Read.val_main_v2, Cert.ProjRefIdeal.Read.val_main_v1, Cert.ProjRefIdeal.Read.val_main_v0, Cert.ProjRefIdeal.Read.val_main_cst,
    Cert.ProjRefIdeal.Read.val_main_cst_0, Cert.ProjRefIdeal.Read.val_main_cst_1, Cert.ProjRefIdeal.Read.val_main_cst_2]

/-- The staged output block, one row and column. -/
theorem out_apply (x0 : Vec Ideal S1x512x1024 .f32) (x1 : Vec Ideal S1x1024 .f32) (x2 x3 : Vec Ideal S1x1x1024 .f32) (x4 : Vec Ideal S1024x2176 .bf16)
    (r : Fin 512) (q : Fin 2176) :
    out0_5 (F := Ideal) x0 x1 x2 x3 x4 (ix3 0 r q)
      = ∑ k : Fin 1024, modRow (fun j => x0 (ix3 0 r j)) (fun j => x1 (ix2 0 j)) (fun j => x2 (ix3 0 0 j)) (fun j => x3 (ix3 0 0 j)) k * x4 (ix2 k q) := by
  have h : out0_5 (F := Ideal) x0 x1 x2 x3 x4 = k0_pay1 (F := Ideal) x0 x1 x2 x3 x4 := by
    unfold out0_5
    frame_out
  rw [h, pay_apply]

/-- Which block of each array a grid point reads and writes. -/
theorem idx : ∀ t : Fin cfg0.N,
    win0_0.index t = ![t.val / 32 % 2, t.val % 32, 0]
    ∧ win0_1.index t = ![0, 0]
    ∧ win0_2.index t = ![t.val / 32 % 2, 0, 0]
    ∧ win0_3.index t = ![t.val / 32 % 2, 0, 0]
    ∧ win0_4.index t = ![0, t.val / 64]
    ∧ win0_5.index t = ![t.val / 32 % 2, t.val % 32, t.val / 64] := by
  decide +kernel

variable (m : (ℓ : Loc nD τ sig) → Buf (Elt Ideal) ℓ) (c : Dev nD)

/-- The batch entry of a grid point. -/
def bOf (t : Fin cfg0.N) : Fin 2 := ⟨t.val / 32 % 2, by omega⟩

/-- Row `r` of a grid point's block of 512 rows. -/
def row (t : Fin cfg0.N) (r : Fin 512) : Fin 16384 := ⟨t.val % 32 * 512 + r.val, by omega⟩

/-- Column `q` of a grid point's block of 2176 columns. -/
def col (t : Fin cfg0.N) (q : Fin 2176) : Fin 8704 := ⟨t.val / 64 * 2176 + q.val, by have h : t.val < 256 := t.isLt; omega⟩

/-- The activations as given. -/
def xAt (b : Fin 2) (s : Fin 16384) (j : Fin 1024) : EReal := m ((c : Thread nD τ).loc main_arg0) (ix3 b s j)

/-- The norm's weight as given. -/
def gAt (j : Fin 1024) : EReal := m ((c : Thread nD τ).loc main_arg1) (ix1 j)

/-- The shift as given. -/
def shAt (b : Fin 2) (j : Fin 1024) : EReal := m ((c : Thread nD τ).loc main_arg2) (ix3 b 0 j)

/-- The scale as given. -/
def scAt (b : Fin 2) (j : Fin 1024) : EReal := m ((c : Thread nD τ).loc main_arg3) (ix3 b 0 j)

/-- The weights as given. -/
def wAt (k : Fin 1024) (n : Fin 8480) : EReal := m ((c : Thread nD τ).loc main_arg4) (ix2 k n)

theorem read0 (t : Fin cfg0.N) (r : Fin 512) (j : Fin 1024) : iblk m c 0 t (ix3 0 r j) = xAt m c (bOf t) (row t r) j := by
  unfold xAt
  blk_simp [iblk, idx t]
  entry_read
  pointwise
  blk_ext [idx t, row, bOf]

theorem read2 (t : Fin cfg0.N) (j : Fin 1024) : iblk m c 2 t (ix3 0 0 j) = shAt m c (bOf t) j := by
  unfold shAt
  blk_simp [iblk, idx t]
  entry_read
  pointwise
  blk_ext [idx t, bOf]

theorem read3 (t : Fin cfg0.N) (j : Fin 1024) : iblk m c 3 t (ix3 0 0 j) = scAt m c (bOf t) j := by
  unfold scAt
  blk_simp [iblk, idx t]
  entry_read
  pointwise
  blk_ext [idx t, bOf]

/-- The rearranged weights, read at an index. -/
def wrAt (k : Fin 1024) (n : Fin 8704) : EReal := V m c main_v16 (ix2 k n)

theorem read4 (t : Fin cfg0.N) (k : Fin 1024) (q : Fin 2176) : iblk m c 4 t (ix2 k q) = wrAt m c k (col t q) := by
  unfold wrAt
  blk_simp [iblk, idx t]
  blk_ext [idx t, col]

end Cert.ProjIdeal.NormProj

end
-- ==== Proof.NormProj.Layout.lean ====
/-
  The order of the columns in the launch, and the reference's order restored after it.
-/
module

public import proofs.«01_k».proof.Proof.NormProj.Pay
public import Idealize.ShloMosaic.Lib.StableHlo.RunRead

@[expose] public section

noncomputable section

namespace Cert.ProjIdeal.NormProj

open Cert.ProjIdeal Cert.ProjIdeal.Gen Idealize.ShloMosaic Idealize.ShloMosaic.TcCoe Cert.Norm

/-- The columns the launch leaves, put back into the reference's order by the host. -/
def restore (x : FVec Ideal S2x16384x8704 .bf16) : FVec Ideal S2x16384x8480 .bf16 :=
  concatenate S2x16384x8480 2 [
      ⟨S2x16384x128, extractStridedSlice S2x16384x128 ![0, 0, 8192] x slices_S2x16384x8704_S2x16384x128_0_0_8192⟩,
      ⟨S2x16384x128, extractStridedSlice S2x16384x128 ![0, 0, 8320] x slices_S2x16384x8704_S2x16384x128_0_0_8320⟩,
      ⟨S2x16384x512, extractStridedSlice S2x16384x512 ![0, 0, 5120] x slices_S2x16384x8704_S2x16384x512_0_0_5120⟩,
      ⟨S2x16384x512, extractStridedSlice S2x16384x512 ![0, 0, 5632] x slices_S2x16384x8704_S2x16384x512_0_0_5632⟩,
      ⟨S2x16384x512, extractStridedSlice S2x16384x512 ![0, 0, 6144] x slices_S2x16384x8704_S2x16384x512_0_0_6144⟩,
      ⟨S2x16384x1024, extractStridedSlice S2x16384x1024 ![0, 0, 0] x slices_S2x16384x8704_S2x16384x1024_0_0_0⟩,
      ⟨S2x16384x32, extractStridedSlice S2x16384x32 ![0, 0, 8448] x slices_S2x16384x8704_S2x16384x32_0_0_8448⟩,
      ⟨S2x16384x512, extractStridedSlice S2x16384x512 ![0, 0, 6656] x slices_S2x16384x8704_S2x16384x512_0_0_6656⟩,
      ⟨S2x16384x512, extractStridedSlice S2x16384x512 ![0, 0, 7168] x slices_S2x16384x8704_S2x16384x512_0_0_7168⟩,
      ⟨S2x16384x512, extractStridedSlice S2x16384x512 ![0, 0, 7680] x slices_S2x16384x8704_S2x16384x512_0_0_7680⟩,
      ⟨S2x16384x1024, extractStridedSlice S2x16384x1024 ![0, 0, 1024] x slices_S2x16384x8704_S2x16384x1024_0_0_1024⟩,
      ⟨S2x16384x1024, extractStridedSlice S2x16384x1024 ![0, 0, 2048] x slices_S2x16384x8704_S2x16384x1024_0_0_2048⟩,
      ⟨S2x16384x1024, extractStridedSlice S2x16384x1024 ![0, 0, 3072] x slices_S2x16384x8704_S2x16384x1024_0_0_3072⟩,
      ⟨S2x16384x1024, extractStridedSlice S2x16384x1024 ![0, 0, 4096] x slices_S2x16384x8704_S2x16384x1024_0_0_4096⟩]
    concatenates_S2x16384x128_S2x16384x128_S2x16384x512_S2x16384x512_S2x16384x512_S2x16384x1024_S2x16384x32_S2x16384x512_S2x16384x512_S2x16384x512_S2x16384x1024_S2x16384x1024_S2x16384x1024_S2x16384x1024_S2x16384x8480_d2

/-- The projection weights with their columns in the launch's order, 224 columns of zeros after them. -/
def arrange (w : FVec Ideal S1024x8480 .f32) : FVec Ideal S1024x8704 .f32 :=
  concatenate S1024x8704 1 [
      ⟨S1024x1024, extractStridedSlice S1024x1024 ![0, 1792] w slices_S1024x8480_S1024x1024_0_1792⟩,
      ⟨S1024x1024, extractStridedSlice S1024x1024 ![0, 4384] w slices_S1024x8480_S1024x1024_0_4384⟩,
      ⟨S1024x1024, extractStridedSlice S1024x1024 ![0, 5408] w slices_S1024x8480_S1024x1024_0_5408⟩,
      ⟨S1024x1024, extractStridedSlice S1024x1024 ![0, 6432] w slices_S1024x8480_S1024x1024_0_6432⟩,
      ⟨S1024x1024, extractStridedSlice S1024x1024 ![0, 7456] w slices_S1024x8480_S1024x1024_0_7456⟩,
      ⟨S1024x512, extractStridedSlice S1024x512 ![0, 256] w slices_S1024x8480_S1024x512_0_256⟩,
      ⟨S1024x512, extractStridedSlice S1024x512 ![0, 768] w slices_S1024x8480_S1024x512_0_768⟩,
      ⟨S1024x512, extractStridedSlice S1024x512 ![0, 1280] w slices_S1024x8480_S1024x512_0_1280⟩,
      ⟨S1024x512, extractStridedSlice S1024x512 ![0, 2848] w slices_S1024x8480_S1024x512_0_2848⟩,
      ⟨S1024x512, extractStridedSlice S1024x512 ![0, 3360] w slices_S1024x8480_S1024x512_0_3360⟩,
      ⟨S1024x512, extractStridedSlice S1024x512 ![0, 3872] w slices_S1024x8480_S1024x512_0_3872⟩,
      ⟨S1024x128, extractStridedSlice S1024x128 ![0, 0] w slices_S1024x8480_S1024x128_0_0⟩,
      ⟨S1024x128, extractStridedSlice S1024x128 ![0, 128] w slices_S1024x8480_S1024x128_0_128⟩,
      ⟨S1024x32, extractStridedSlice S1024x32 ![0, 2816] w slices_S1024x8480_S1024x32_0_2816⟩,
      ⟨S1024x224, broadcastInDim S1024x224 ![] bcast_S_S1024x224 (constant S_ .f32 0x00000000#32)⟩]
    concatenates_S1024x1024_S1024x1024_S1024x1024_S1024x1024_S1024x1024_S1024x512_S1024x512_S1024x512_S1024x512_S1024x512_S1024x512_S1024x128_S1024x128_S1024x32_S1024x224_S1024x8704_d1

set_option maxHeartbeats 4000000 in
/-- A product against the arranged weights, restored to the reference's order, is the product against the weights. -/
theorem restore_arrange (x : FVec Ideal S2x16384x8704 .bf16) (w : FVec Ideal S1024x8480 .f32)
    (f : Fin 2 → Fin 16384 → Fin 1024 → EReal)
    (hx : ∀ b s (j : Fin 8704), x (ix3 b s j) = ∑ k, f b s k * arrange w (ix2 k j))
    (b : Fin 2) (s : Fin 16384) (n : Fin 8480) : restore x (ix3 b s n) = ∑ k, f b s k * w (ix2 k n) := by
  have hn := n.isLt
  have h : (0 ≤ n.val ∧ n.val < 128) ∨ (128 ≤ n.val ∧ n.val < 256) ∨ (256 ≤ n.val ∧ n.val < 768) ∨ (768 ≤ n.val ∧ n.val < 1280) ∨ (1280 ≤ n.val ∧ n.val < 1792) ∨ (1792 ≤ n.val ∧ n.val < 2816) ∨ (2816 ≤ n.val ∧ n.val < 2848) ∨ (2848 ≤ n.val ∧ n.val < 3360) ∨ (3360 ≤ n.val ∧ n.val < 3872) ∨ (3872 ≤ n.val ∧ n.val < 4384) ∨ (4384 ≤ n.val ∧ n.val < 5408) ∨ (5408 ≤ n.val ∧ n.val < 6432) ∨ (6432 ≤ n.val ∧ n.val < 7456) ∨ (7456 ≤ n.val ∧ n.val < 8480) := by omega
  rcases h with h | h | h | h | h | h | h | h | h | h | h | h | h | h
  · have hb : 0 ≤ n.val ∧ n.val < 128 := by omega
    have e : restore x (ix3 b s n) = x (ix3 b s ⟨8192 + (n.val - 0), by omega⟩) := by
      unfold restore
      refine (concatenate_apply_piece (t := S2x16384x8480) 2 _ _ _ 0 (by simp) S2x16384x128 _ rfl rfl 0
        (by simp only [List.take_succ_cons, List.take_zero, List.map_cons, List.map_nil]; decide +kernel)
        (ix3 b s ⟨n.val - 0, by omega⟩)
        (by intro a ha; fin_cases a; · exact Eq.refl b.val
            · exact Eq.refl s.val
            · exact (ha (by decide)).elim)
        (by show 0 + (n.val - 0) = n.val; omega)).trans ?_
      pointwise
    have e' : ∀ k : Fin 1024, arrange w (ix2 k ⟨8192 + (n.val - 0), by omega⟩) = w (ix2 k n) := by
      intro k
      unfold arrange
      refine (concatenate_apply_piece (t := S1024x8704) 1 _ _ _ 11 (by simp) S1024x128 _ rfl rfl 8192
        (by simp only [List.take_succ_cons, List.take_zero, List.map_cons, List.map_nil]; decide +kernel)
        (ix2 k ⟨n.val - 0, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 128 ≤ n.val ∧ n.val < 256 := by omega
    have e : restore x (ix3 b s n) = x (ix3 b s ⟨8320 + (n.val - 128), by omega⟩) := by
      unfold restore
      refine (concatenate_apply_piece (t := S2x16384x8480) 2 _ _ _ 1 (by simp) S2x16384x128 _ rfl rfl 128
        (by simp only [List.take_succ_cons, List.take_zero, List.map_cons, List.map_nil]; decide +kernel)
        (ix3 b s ⟨n.val - 128, by omega⟩)
        (by intro a ha; fin_cases a; · exact Eq.refl b.val
            · exact Eq.refl s.val
            · exact (ha (by decide)).elim)
        (by show 128 + (n.val - 128) = n.val; omega)).trans ?_
      pointwise
    have e' : ∀ k : Fin 1024, arrange w (ix2 k ⟨8320 + (n.val - 128), by omega⟩) = w (ix2 k n) := by
      intro k
      unfold arrange
      refine (concatenate_apply_piece (t := S1024x8704) 1 _ _ _ 12 (by simp) S1024x128 _ rfl rfl 8320
        (by simp only [List.take_succ_cons, List.take_zero, List.map_cons, List.map_nil]; decide +kernel)
        (ix2 k ⟨n.val - 128, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 256 ≤ n.val ∧ n.val < 768 := by omega
    have e : restore x (ix3 b s n) = x (ix3 b s ⟨5120 + (n.val - 256), by omega⟩) := by
      unfold restore
      refine (concatenate_apply_piece (t := S2x16384x8480) 2 _ _ _ 2 (by simp) S2x16384x512 _ rfl rfl 256
        (by simp only [List.take_succ_cons, List.take_zero, List.map_cons, List.map_nil]; decide +kernel)
        (ix3 b s ⟨n.val - 256, by omega⟩)
        (by intro a ha; fin_cases a; · exact Eq.refl b.val
            · exact Eq.refl s.val
            · exact (ha (by decide)).elim)
        (by show 256 + (n.val - 256) = n.val; omega)).trans ?_
      pointwise
    have e' : ∀ k : Fin 1024, arrange w (ix2 k ⟨5120 + (n.val - 256), by omega⟩) = w (ix2 k n) := by
      intro k
      unfold arrange
      refine (concatenate_apply_piece (t := S1024x8704) 1 _ _ _ 5 (by simp) S1024x512 _ rfl rfl 5120
        (by simp only [List.take_succ_cons, List.take_zero, List.map_cons, List.map_nil]; decide +kernel)
        (ix2 k ⟨n.val - 256, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 768 ≤ n.val ∧ n.val < 1280 := by omega
    have e : restore x (ix3 b s n) = x (ix3 b s ⟨5632 + (n.val - 768), by omega⟩) := by
      unfold restore
      refine (concatenate_apply_piece (t := S2x16384x8480) 2 _ _ _ 3 (by simp) S2x16384x512 _ rfl rfl 768
        (by simp only [List.take_succ_cons, List.take_zero, List.map_cons, List.map_nil]; decide +kernel)
        (ix3 b s ⟨n.val - 768, by omega⟩)
        (by intro a ha; fin_cases a; · exact Eq.refl b.val
            · exact Eq.refl s.val
            · exact (ha (by decide)).elim)
        (by show 768 + (n.val - 768) = n.val; omega)).trans ?_
      pointwise
    have e' : ∀ k : Fin 1024, arrange w (ix2 k ⟨5632 + (n.val - 768), by omega⟩) = w (ix2 k n) := by
      intro k
      unfold arrange
      refine (concatenate_apply_piece (t := S1024x8704) 1 _ _ _ 6 (by simp) S1024x512 _ rfl rfl 5632
        (by simp only [List.take_succ_cons, List.take_zero, List.map_cons, List.map_nil]; decide +kernel)
        (ix2 k ⟨n.val - 768, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 1280 ≤ n.val ∧ n.val < 1792 := by omega
    have e : restore x (ix3 b s n) = x (ix3 b s ⟨6144 + (n.val - 1280), by omega⟩) := by
      unfold restore
      refine (concatenate_apply_piece (t := S2x16384x8480) 2 _ _ _ 4 (by simp) S2x16384x512 _ rfl rfl 1280
        (by simp only [List.take_succ_cons, List.take_zero, List.map_cons, List.map_nil]; decide +kernel)
        (ix3 b s ⟨n.val - 1280, by omega⟩)
        (by intro a ha; fin_cases a; · exact Eq.refl b.val
            · exact Eq.refl s.val
            · exact (ha (by decide)).elim)
        (by show 1280 + (n.val - 1280) = n.val; omega)).trans ?_
      pointwise
    have e' : ∀ k : Fin 1024, arrange w (ix2 k ⟨6144 + (n.val - 1280), by omega⟩) = w (ix2 k n) := by
      intro k
      unfold arrange
      refine (concatenate_apply_piece (t := S1024x8704) 1 _ _ _ 7 (by simp) S1024x512 _ rfl rfl 6144
        (by simp only [List.take_succ_cons, List.take_zero, List.map_cons, List.map_nil]; decide +kernel)
        (ix2 k ⟨n.val - 1280, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 1792 ≤ n.val ∧ n.val < 2816 := by omega
    have e : restore x (ix3 b s n) = x (ix3 b s ⟨0 + (n.val - 1792), by omega⟩) := by
      unfold restore
      refine (concatenate_apply_piece (t := S2x16384x8480) 2 _ _ _ 5 (by simp) S2x16384x1024 _ rfl rfl 1792
        (by simp only [List.take_succ_cons, List.take_zero, List.map_cons, List.map_nil]; decide +kernel)
        (ix3 b s ⟨n.val - 1792, by omega⟩)
        (by intro a ha; fin_cases a; · exact Eq.refl b.val
            · exact Eq.refl s.val
            · exact (ha (by decide)).elim)
        (by show 1792 + (n.val - 1792) = n.val; omega)).trans ?_
      pointwise
    have e' : ∀ k : Fin 1024, arrange w (ix2 k ⟨0 + (n.val - 1792), by omega⟩) = w (ix2 k n) := by
      intro k
      unfold arrange
      refine (concatenate_apply_piece (t := S1024x8704) 1 _ _ _ 0 (by simp) S1024x1024 _ rfl rfl 0
        (by simp only [List.take_succ_cons, List.take_zero, List.map_cons, List.map_nil]; decide +kernel)
        (ix2 k ⟨n.val - 1792, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 2816 ≤ n.val ∧ n.val < 2848 := by omega
    have e : restore x (ix3 b s n) = x (ix3 b s ⟨8448 + (n.val - 2816), by omega⟩) := by
      unfold restore
      refine (concatenate_apply_piece (t := S2x16384x8480) 2 _ _ _ 6 (by simp) S2x16384x32 _ rfl rfl 2816
        (by simp only [List.take_succ_cons, List.take_zero, List.map_cons, List.map_nil]; decide +kernel)
        (ix3 b s ⟨n.val - 2816, by omega⟩)
        (by intro a ha; fin_cases a; · exact Eq.refl b.val
            · exact Eq.refl s.val
            · exact (ha (by decide)).elim)
        (by show 2816 + (n.val - 2816) = n.val; omega)).trans ?_
      pointwise
    have e' : ∀ k : Fin 1024, arrange w (ix2 k ⟨8448 + (n.val - 2816), by omega⟩) = w (ix2 k n) := by
      intro k
      unfold arrange
      refine (concatenate_apply_piece (t := S1024x8704) 1 _ _ _ 13 (by simp) S1024x32 _ rfl rfl 8448
        (by simp only [List.take_succ_cons, List.take_zero, List.map_cons, List.map_nil]; decide +kernel)
        (ix2 k ⟨n.val - 2816, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 2848 ≤ n.val ∧ n.val < 3360 := by omega
    have e : restore x (ix3 b s n) = x (ix3 b s ⟨6656 + (n.val - 2848), by omega⟩) := by
      unfold restore
      refine (concatenate_apply_piece (t := S2x16384x8480) 2 _ _ _ 7 (by simp) S2x16384x512 _ rfl rfl 2848
        (by simp only [List.take_succ_cons, List.take_zero, List.map_cons, List.map_nil]; decide +kernel)
        (ix3 b s ⟨n.val - 2848, by omega⟩)
        (by intro a ha; fin_cases a; · exact Eq.refl b.val
            · exact Eq.refl s.val
            · exact (ha (by decide)).elim)
        (by show 2848 + (n.val - 2848) = n.val; omega)).trans ?_
      pointwise
    have e' : ∀ k : Fin 1024, arrange w (ix2 k ⟨6656 + (n.val - 2848), by omega⟩) = w (ix2 k n) := by
      intro k
      unfold arrange
      refine (concatenate_apply_piece (t := S1024x8704) 1 _ _ _ 8 (by simp) S1024x512 _ rfl rfl 6656
        (by simp only [List.take_succ_cons, List.take_zero, List.map_cons, List.map_nil]; decide +kernel)
        (ix2 k ⟨n.val - 2848, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 3360 ≤ n.val ∧ n.val < 3872 := by omega
    have e : restore x (ix3 b s n) = x (ix3 b s ⟨7168 + (n.val - 3360), by omega⟩) := by
      unfold restore
      refine (concatenate_apply_piece (t := S2x16384x8480) 2 _ _ _ 8 (by simp) S2x16384x512 _ rfl rfl 3360
        (by simp only [List.take_succ_cons, List.take_zero, List.map_cons, List.map_nil]; decide +kernel)
        (ix3 b s ⟨n.val - 3360, by omega⟩)
        (by intro a ha; fin_cases a; · exact Eq.refl b.val
            · exact Eq.refl s.val
            · exact (ha (by decide)).elim)
        (by show 3360 + (n.val - 3360) = n.val; omega)).trans ?_
      pointwise
    have e' : ∀ k : Fin 1024, arrange w (ix2 k ⟨7168 + (n.val - 3360), by omega⟩) = w (ix2 k n) := by
      intro k
      unfold arrange
      refine (concatenate_apply_piece (t := S1024x8704) 1 _ _ _ 9 (by simp) S1024x512 _ rfl rfl 7168
        (by simp only [List.take_succ_cons, List.take_zero, List.map_cons, List.map_nil]; decide +kernel)
        (ix2 k ⟨n.val - 3360, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 3872 ≤ n.val ∧ n.val < 4384 := by omega
    have e : restore x (ix3 b s n) = x (ix3 b s ⟨7680 + (n.val - 3872), by omega⟩) := by
      unfold restore
      refine (concatenate_apply_piece (t := S2x16384x8480) 2 _ _ _ 9 (by simp) S2x16384x512 _ rfl rfl 3872
        (by simp only [List.take_succ_cons, List.take_zero, List.map_cons, List.map_nil]; decide +kernel)
        (ix3 b s ⟨n.val - 3872, by omega⟩)
        (by intro a ha; fin_cases a; · exact Eq.refl b.val
            · exact Eq.refl s.val
            · exact (ha (by decide)).elim)
        (by show 3872 + (n.val - 3872) = n.val; omega)).trans ?_
      pointwise
    have e' : ∀ k : Fin 1024, arrange w (ix2 k ⟨7680 + (n.val - 3872), by omega⟩) = w (ix2 k n) := by
      intro k
      unfold arrange
      refine (concatenate_apply_piece (t := S1024x8704) 1 _ _ _ 10 (by simp) S1024x512 _ rfl rfl 7680
        (by simp only [List.take_succ_cons, List.take_zero, List.map_cons, List.map_nil]; decide +kernel)
        (ix2 k ⟨n.val - 3872, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 4384 ≤ n.val ∧ n.val < 5408 := by omega
    have e : restore x (ix3 b s n) = x (ix3 b s ⟨1024 + (n.val - 4384), by omega⟩) := by
      unfold restore
      refine (concatenate_apply_piece (t := S2x16384x8480) 2 _ _ _ 10 (by simp) S2x16384x1024 _ rfl rfl 4384
        (by simp only [List.take_succ_cons, List.take_zero, List.map_cons, List.map_nil]; decide +kernel)
        (ix3 b s ⟨n.val - 4384, by omega⟩)
        (by intro a ha; fin_cases a; · exact Eq.refl b.val
            · exact Eq.refl s.val
            · exact (ha (by decide)).elim)
        (by show 4384 + (n.val - 4384) = n.val; omega)).trans ?_
      pointwise
    have e' : ∀ k : Fin 1024, arrange w (ix2 k ⟨1024 + (n.val - 4384), by omega⟩) = w (ix2 k n) := by
      intro k
      unfold arrange
      refine (concatenate_apply_piece (t := S1024x8704) 1 _ _ _ 1 (by simp) S1024x1024 _ rfl rfl 1024
        (by simp only [List.take_succ_cons, List.take_zero, List.map_cons, List.map_nil]; decide +kernel)
        (ix2 k ⟨n.val - 4384, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 5408 ≤ n.val ∧ n.val < 6432 := by omega
    have e : restore x (ix3 b s n) = x (ix3 b s ⟨2048 + (n.val - 5408), by omega⟩) := by
      unfold restore
      refine (concatenate_apply_piece (t := S2x16384x8480) 2 _ _ _ 11 (by simp) S2x16384x1024 _ rfl rfl 5408
        (by simp only [List.take_succ_cons, List.take_zero, List.map_cons, List.map_nil]; decide +kernel)
        (ix3 b s ⟨n.val - 5408, by omega⟩)
        (by intro a ha; fin_cases a; · exact Eq.refl b.val
            · exact Eq.refl s.val
            · exact (ha (by decide)).elim)
        (by show 5408 + (n.val - 5408) = n.val; omega)).trans ?_
      pointwise
    have e' : ∀ k : Fin 1024, arrange w (ix2 k ⟨2048 + (n.val - 5408), by omega⟩) = w (ix2 k n) := by
      intro k
      unfold arrange
      refine (concatenate_apply_piece (t := S1024x8704) 1 _ _ _ 2 (by simp) S1024x1024 _ rfl rfl 2048
        (by simp only [List.take_succ_cons, List.take_zero, List.map_cons, List.map_nil]; decide +kernel)
        (ix2 k ⟨n.val - 5408, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 6432 ≤ n.val ∧ n.val < 7456 := by omega
    have e : restore x (ix3 b s n) = x (ix3 b s ⟨3072 + (n.val - 6432), by omega⟩) := by
      unfold restore
      refine (concatenate_apply_piece (t := S2x16384x8480) 2 _ _ _ 12 (by simp) S2x16384x1024 _ rfl rfl 6432
        (by simp only [List.take_succ_cons, List.take_zero, List.map_cons, List.map_nil]; decide +kernel)
        (ix3 b s ⟨n.val - 6432, by omega⟩)
        (by intro a ha; fin_cases a; · exact Eq.refl b.val
            · exact Eq.refl s.val
            · exact (ha (by decide)).elim)
        (by show 6432 + (n.val - 6432) = n.val; omega)).trans ?_
      pointwise
    have e' : ∀ k : Fin 1024, arrange w (ix2 k ⟨3072 + (n.val - 6432), by omega⟩) = w (ix2 k n) := by
      intro k
      unfold arrange
      refine (concatenate_apply_piece (t := S1024x8704) 1 _ _ _ 3 (by simp) S1024x1024 _ rfl rfl 3072
        (by simp only [List.take_succ_cons, List.take_zero, List.map_cons, List.map_nil]; decide +kernel)
        (ix2 k ⟨n.val - 6432, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']
  · have hb : 7456 ≤ n.val ∧ n.val < 8480 := by omega
    have e : restore x (ix3 b s n) = x (ix3 b s ⟨4096 + (n.val - 7456), by omega⟩) := by
      unfold restore
      refine (concatenate_apply_piece (t := S2x16384x8480) 2 _ _ _ 13 (by simp) S2x16384x1024 _ rfl rfl 7456
        (by simp only [List.take_succ_cons, List.take_zero, List.map_cons, List.map_nil]; decide +kernel)
        (ix3 b s ⟨n.val - 7456, by omega⟩)
        (by intro a ha; fin_cases a; · exact Eq.refl b.val
            · exact Eq.refl s.val
            · exact (ha (by decide)).elim)
        (by show 7456 + (n.val - 7456) = n.val; omega)).trans ?_
      pointwise
    have e' : ∀ k : Fin 1024, arrange w (ix2 k ⟨4096 + (n.val - 7456), by omega⟩) = w (ix2 k n) := by
      intro k
      unfold arrange
      refine (concatenate_apply_piece (t := S1024x8704) 1 _ _ _ 4 (by simp) S1024x1024 _ rfl rfl 4096
        (by simp only [List.take_succ_cons, List.take_zero, List.map_cons, List.map_nil]; decide +kernel)
        (ix2 k ⟨n.val - 7456, by omega⟩)
        (by intro a ha; fin_cases a; · exact Eq.refl k.val
            · exact (ha (by decide)).elim)
        (by rfl)).trans ?_
      pointwise
      all_goals exact congrArg (fun j => w (ix2 k j)) (Fin.ext (by dsimp only; omega))
    rw [e, hx]; simp only [e']

end Cert.ProjIdeal.NormProj

end
-- ==== Proof.NormProj.Entry.lean ====
/-
  The two arrays the host prepares before the launch.
-/
module

public import proofs.«01_k».proof.Proof.NormProj.Pay
public import proofs.«01_k».proof.Proof.NormProj.Layout
public import Idealize.ShloMosaic.Lib.StableHlo.RunClose
public import Idealize.ShloMosaic.Lib.StableHlo.RunRead

@[expose] public section

noncomputable section

namespace Cert.ProjIdeal.NormProj

open Cert.ProjIdeal Cert.ProjIdeal.Gen Idealize.ShloMosaic Idealize.ShloMosaic.TcCoe Cert.Norm

variable (m : (ℓ : Loc nD τ sig) → Buf (Elt Ideal) ℓ) (c : Dev nD)

theorem read1 (t : Fin cfg0.N) (j : Fin 1024) : iblk m c 1 t (ix2 0 j) = gAt m c j := by
  have h : V m c main_v17 = shapeCast S1x1024 (m ((c : Thread nD τ).loc main_arg1)) shapeCasts_S1024_S1x1024 := by
    show StableHlo.after hostOps0 _ (Proc.devRef .tc main_v17) = _
    after_results
    rfl
  unfold gAt
  blk_simp [iblk, idx t]
  rw [h]
  pointwise
  blk_ext [idx t]

set_option maxHeartbeats 2000000 in
/-- What the host leaves as the weights: the given ones, arranged. -/
theorem arranged (X : Valuation τ sig (Elt Ideal)) :
    StableHlo.after hostOps0 X (Proc.devRef .tc main_v16) = truncf .bf16 (arrange (X (Proc.devRef .tc main_arg4))) bitsLt_bf16_f32 := by
  unfold arrange
  after_results_entrywise (rounds := 1) []

set_option maxHeartbeats 2000000 in
/-- What the host leaves as the result: the launch's array, its columns restored. -/
theorem restored (X : Valuation τ sig (Elt Ideal)) :
    StableHlo.after hostOps1 X (Proc.devRef .tc main_v33) = restore (X (Proc.devRef .tc main_v18)) := by
  unfold restore
  after_results_entrywise (rounds := 1) []

/-- The weights the launch reads are the arranged ones. -/
theorem wrAt_eq (k : Fin 1024) (n : Fin 8704) : wrAt m c k n = arrange (m ((c : Thread nD τ).loc main_arg4)) (ix2 k n) := by
  have h : V m c main_v16 = truncf .bf16 (arrange (m ((c : Thread nD τ).loc main_arg4))) bitsLt_bf16_f32 :=
    arranged (fun b => m (c, b))
  unfold wrAt
  rw [h]
  rfl

end Cert.ProjIdeal.NormProj

end
-- ==== Proof.NormProj.Final.lean ====
/-
  The whole array the launch leaves, and the result the host takes from it.
-/
module

public import proofs.«01_k».proof.Proof.NormProj.Entry

@[expose] public section

noncomputable section

namespace Cert.ProjIdeal.NormProj

open Cert.ProjIdeal Cert.ProjIdeal.Gen Idealize.ShloMosaic Idealize.ShloMosaic.TcCoe Cert.Norm Idealize.SL.Sem

variable (m : (ℓ : Loc nD τ sig) → Buf (Elt Ideal) ℓ) (c : Dev nD)

/-- One normed and modulated input of the product. -/
def modAt (b : Fin 2) (s : Fin 16384) (k : Fin 1024) : EReal := modRow (xAt m c b s) (gAt m c) (shAt m c b) (scAt m c b) k

/-- The array the launch leaves: the product against the arranged weights. -/
def launched : FVec Ideal S2x16384x8704 .bf16 :=
  fun i => ∑ k : Fin 1024, modAt m c (i 0) (i 1) k * arrange (m ((c : Thread nD τ).loc main_arg4)) (ix2 k (i 2))

/-- The launched array's blocks are not cut at the array's end. -/
theorem xs (t : Fin cfg0.N) : ∀ a, win0_5.xsize (grid0.coords t) a = S1x512x2176.size a := by
  revert t; decide +kernel

theorem off (t : Fin cfg0.N) : win0_5.index t 0 * win0_5.size 0 = t.val / 32 % 2 ∧ win0_5.index t 1 * win0_5.size 1 = t.val % 32 * 512
    ∧ win0_5.index t 2 * win0_5.size 2 = t.val / 64 * 2176 := by
  revert t; decide +kernel

/-- An index of the launched array's block at a grid point lies in the array at the block's rows and columns. -/
theorem emb_blk (t : Fin cfg0.N) (y : (win0_5.xblock (grid0.coords t)).Idx) (r : Fin 512) (q : Fin 2176) (h1 : (y 1).val = r.val) (h2 : (y 2).val = q.val)
    (h0 : (y 0).val = 0) :
    ((View.whole main_v18).slice (win0_5.rect t)).emb y = ix3 (bOf t) (row t r) (col t q) := by
  refine funext fun a => Fin.ext ?_
  match a with
  | ⟨0, _⟩ => exact (show _ = win0_5.index t 0 * win0_5.size 0 + 1 * (y 0).val from rfl).trans (by rw [(off t).1, h0]; rfl)
  | ⟨1, _⟩ => exact (show _ = win0_5.index t 1 * win0_5.size 1 + 1 * (y 1).val from rfl).trans (by rw [(off t).2.1, h1, Nat.one_mul]; rfl)
  | ⟨2, _⟩ => exact (show _ = win0_5.index t 2 * win0_5.size 2 + 1 * (y 2).val from rfl).trans (by rw [(off t).2.2, h2, Nat.one_mul]; rfl)

/-- The block of an array that a grid point's write-back covers, read at an index. -/
theorem read_blk (G : Buf (Elt Ideal) ((c : Thread nD τ).loc main_v18)) (t : Fin cfg0.N) (y : (win0_5.xblock (grid0.coords t)).Idx) (r : Fin 512) (q : Fin 2176)
    (h1 : (y 1).val = r.val) (h2 : (y 2).val = q.val) (h0 : (y 0).val = 0) :
    ((cfg0.win 5).blk t).view.read (Elt Ideal) G y = G (ix3 (bOf t) (row t r) (col t q)) := by
  rw [← emb_blk t y r q h1 h2 h0]
  rfl

/-- A block's contents, read where the write-back moves them. -/
theorem cut_blk (X : Vec Ideal S1x512x2176 .bf16) (t : Fin cfg0.N) (y : (win0_5.xblock (grid0.coords t)).Idx) (r : Fin 512) (q : Fin 2176)
    (h1 : (y 1).val = r.val) (h2 : (y 2).val = q.val) (h0 : (y 0).val = 0) :
    (cfg0.win 5).cut (grid0.coords t) X y = X (ix3 0 r q) := by
  show X (win0_5.xinj (grid0.coords t) y) = _
  refine congrArg X (funext fun a => Fin.ext ?_)
  match a with
  | ⟨0, _⟩ => exact h0
  | ⟨1, _⟩ => exact h1
  | ⟨2, _⟩ => exact h2

theorem ix_bounds (t : Fin cfg0.N) (y : (win0_5.xblock (grid0.coords t)).Idx) : (y 0).val < 1 ∧ (y 1).val < 512 ∧ (y 2).val < 2176 :=
  ⟨lt_of_lt_of_eq (y 0).isLt (xs t 0), lt_of_lt_of_eq (y 1).isLt (xs t 1), lt_of_lt_of_eq (y 2).isLt (xs t 2)⟩

/-- A staged output block is its block of the launched array. -/
theorem block_final (t : Fin cfg0.N) (r : Fin 512) (q : Fin 2176) :
    out0_5 (F := Ideal) (iblk m c 0 t) (iblk m c 1 t) (iblk m c 2 t) (iblk m c 3 t) (iblk m c 4 t) (ix3 0 r q)
      = launched m c (ix3 (bOf t) (row t r) (col t q)) := by
  rw [out_apply]
  simp only [read0, read1, read2, read3, read4, wrAt_eq]
  rfl

/-- What a grid point writes back is its block of the launched array. -/
theorem flushed_eq (t : Fin cfg0.N) :
    (dats m 0 c).flushed 5 t = ((cfg0.win 5).blk t).view.read (Elt Ideal) (launched m c) := by
  show (cfg0.win 5).cut (grid0.coords t) ((dats m 0 c).after 5 t) = _
  rw [after0_5]
  refine funext fun y => ?_
  obtain ⟨y0, y1, y2⟩ := ix_bounds t y
  exact (cut_blk (out0_5 (F := Ideal) (iblk m c 0 t) (iblk m c 1 t) (iblk m c 2 t) (iblk m c 3 t) (iblk m c 4 t)) t y ⟨(y 1).val, y1⟩ ⟨(y 2).val, y2⟩ rfl rfl (by omega)).trans
    ((block_final m c t ⟨(y 1).val, y1⟩ ⟨(y 2).val, y2⟩).trans
      (read_blk c (launched m c) t y ⟨(y 1).val, y1⟩ ⟨(y 2).val, y2⟩ rfl rfl (by omega)).symm)

/-- Every index of the array lies in the block of some grid point. -/
theorem cover (i : S2x16384x8704.Idx) : ∃ t : Fin cfg0.N, (cfg0.win 5).flush t = true ∧ i ∈ ((cfg0.win 5).blk t).view.set := by
  have i0 : (i 0).val < 2 := (i 0).isLt
  have i1 : (i 1).val < 16384 := (i 1).isLt
  have i2 : (i 2).val < 8704 := (i 2).isLt
  have hN : (i 2).val / 2176 * 64 + (i 0).val * 32 + (i 1).val / 512 < cfg0.N := by show _ < 256; omega
  refine ⟨⟨(i 2).val / 2176 * 64 + (i 0).val * 32 + (i 1).val / 512, hN⟩, flush0_5 _, ?_⟩
  generalize hT : (⟨(i 2).val / 2176 * 64 + (i 0).val * 32 + (i 1).val / 512, hN⟩ : Fin cfg0.N) = T
  have hv : T.val = (i 2).val / 2176 * 64 + (i 0).val * 32 + (i 1).val / 512 := by rw [← hT]
  show i ∈ ((View.whole main_v18).slice (win0_5.rect T)).set
  rw [View.set_slice_whole, Rect.mem_set_unit]
  intro a
  match a with
  | ⟨0, _⟩ =>
    show win0_5.index T 0 * win0_5.size 0 ≤ (i 0 : Nat) ∧ (i 0 : Nat) < win0_5.index T 0 * win0_5.size 0 + win0_5.xsize (grid0.coords T) 0
    rw [(off T).1, xs T 0]
    show _ ∧ (i 0 : Nat) < _ + 1
    omega
  | ⟨1, _⟩ =>
    show win0_5.index T 1 * win0_5.size 1 ≤ (i 1 : Nat) ∧ (i 1 : Nat) < win0_5.index T 1 * win0_5.size 1 + win0_5.xsize (grid0.coords T) 1
    rw [(off T).2.1, xs T 1]
    show _ ∧ (i 1 : Nat) < _ + 512
    omega
  | ⟨2, _⟩ =>
    show win0_5.index T 2 * win0_5.size 2 ≤ (i 2 : Nat) ∧ (i 2 : Nat) < win0_5.index T 2 * win0_5.size 2 + win0_5.xsize (grid0.coords T) 2
    rw [(off T).2.2, xs T 2]
    show _ ∧ (i 2 : Nat) < _ + 2176
    omega

/-- The array at the end of the launch. -/
theorem final : (dats m 0 c).arrAt 5 cfg0.N = launched m c :=
  (dats m 0 c).arrAt_eq_of_cover 5 (launched m c) (fun t _ => flushed_eq m c t) cover

/-- The reference's result on the kernel's arguments. -/
def result : FVec Ideal S2x16384x8480 .bf16 :=
  Cert.ProjRefIdeal.Read.val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The launched array with its columns restored is the reference's result, index by index. -/
theorem restore_launched_apply (b : Fin 2) (s : Fin 16384) (n : Fin 8480) : restore (launched m c) (ix3 b s n) = result m c (ix3 b s n) := by
  rw [restore_arrange (launched m c) (m ((c : Thread nD τ).loc main_arg4)) (modAt m c) (fun _ _ _ => rfl)]
  unfold result modAt
  pointwise [Cert.ProjRefIdeal.Read.val_main_v20]
  rw [Cert.ProjRefIdeal.Read.val_main_v19_apply]
  refine Finset.sum_congr rfl fun k _ => ?_
  have e := ref_apply (m ((c : Thread nD τ).loc main_arg0)) (m ((c : Thread nD τ).loc main_arg1))
    (m ((c : Thread nD τ).loc main_arg2)) (m ((c : Thread nD τ).loc main_arg3)) b s k
  have el : Cert.ProjRefIdeal.Read.lidx_main_v19 (ix3 b s n) k = ix3 b s k := by
    funext a
    match a with
    | ⟨0, _⟩ => rfl
    | ⟨1, _⟩ => rfl
    | ⟨2, _⟩ => rfl
  have er : Cert.ProjRefIdeal.Read.ridx_main_v19 (ix3 b s n) k = ix2 k n := by
    funext a
    match a with
    | ⟨0, _⟩ => rfl
    | ⟨1, _⟩ => rfl
  rw [el, er, e]
  rfl

/-- The launched array with its columns restored is the reference's result. -/
theorem restore_launched : restore (launched m c) = result m c := by
  refine funext fun i => ?_
  have hi : i = (ix3 (i 0) (i 1) (i 2) : S2x16384x8480.Idx) := by
    funext a
    match a with
    | ⟨0, _⟩ => rfl
    | ⟨1, _⟩ => rfl
    | ⟨2, _⟩ => rfl
  exact (congrArg (restore (launched m c)) hi).trans
    ((restore_launched_apply m c (i 0) (i 1) (i 2)).trans (congrArg (result m c) hi).symm)

/-- What the run leaves as the result. -/
theorem tail : Pipeline.afterTail₀ cfgs (dats m) 0 (V0 m) [hostOps1] c main_v33 = result m c := by
  show StableHlo.after hostOps1 (Pipeline.withArrays (cfgs 0).spec c (V0 m c) fun w => (dats m 0 c).arrAt w (cfgs 0).N) (Proc.devRef .tc main_v33) = _
  rw [restored]
  have h := Pipeline.withArrays_arr (cfgs 0).spec (by decide) c (V0 m c) (fun w => (dats m 0 c).arrAt w (cfgs 0).N) 5
  exact (congrArg restore (h.trans (final m c))).trans (restore_launched m c)

end Cert.ProjIdeal.NormProj

end
-- ==== Proof.Merge.Row.lean ====
/-
  One token of the merge: the gated and normalised heads of the recurrent path, the three paths' mixture, the residual, and the normalised row for the next stage.
-/
module

public import proofs.«01_k».proof.Proof.NormProj.Norm

@[expose] public section

noncomputable section

namespace Cert.Merge

open Idealize.ShloMosaic

/-- The column of feature `d` of head `h` in a row of 1024. -/
def col (h : Fin 4) (d : Fin 256) : Fin 1024 := ⟨h.val * 256 + d.val, by omega⟩

/-- The column of feature `n` of gate `g` in a row of 3072. -/
def gcol (g : Fin 3) (n : Fin 1024) : Fin 3072 := ⟨g.val * 1024 + n.val, by omega⟩

/-- Feature `d` of one head: normalised by its root mean square, weighted, then gated by `r · σ(r)`. -/
def headRow (o g r : Fin 256 → EReal) (d : Fin 256) : EReal :=
  o d * Ideal.rsqrt (Ideal.div (∑ x : Fin 256, o x * o x) (Ideal.ofBits FTy.f32 0x43800000#32) + Ideal.ofBits FTy.f32 0x358637BD#32) * g d
      * (r d * Ideal.logistic (r d))

/-- Column `k` of the four heads side by side. -/
def ocRow (o : Fin 4 → Fin 256 → EReal) (g : Fin 256 → EReal) (r : Fin 4 → Fin 256 → EReal) (k : Fin 1024) : EReal :=
  headRow (o ⟨k.val / 256, by omega⟩) g (r ⟨k.val / 256, by omega⟩) ⟨k.val % 256, by omega⟩

/-- Column `k` of the mixture: each path through its own weight, under its own gate. -/
def yRow (oa ob : Fin 512 → EReal) (oc : Fin 1024 → EReal) (ga gb gc : Fin 1024 → EReal) (wa wb : Fin 512 → Fin 1024 → EReal) (wc : Fin 1024 → Fin 1024 → EReal) (k : Fin 1024) : EReal :=
  Ideal.logistic (ga k) * (∑ j : Fin 512, oa j * wa j k) + Ideal.logistic (gb k) * (∑ j : Fin 512, ob j * wb j k) + Ideal.logistic (gc k) * (∑ j : Fin 1024, oc j * wc j k)

/-- Column `k` of the residual row: the input plus the gated projection of the mixture. -/
def xRow (x g1 y : Fin 1024 → EReal) (w : Fin 1024 → Fin 1024 → EReal) (k : Fin 1024) : EReal :=
  x k + g1 k * ∑ j : Fin 1024, y j * w j k

end Cert.Merge

end
-- ==== Proof.Merge.Pay.lean ====
/-
  What the merge kernel's body stores, at one row and column of its block.
-/
module

public import proofs.«01_k».proof.Proof.Merge.Row
public import proofs.«01_k».proof.Proof.Gen.MergeIdeal.Skeleton
public import proofs.«01_k».proof.Proof.Gen.MergeIdeal.Value
public import Idealize.ShloMosaic.Lib.Pointwise

@[expose] public section

noncomputable section

namespace Cert.MergeIdeal.Merge

open Cert.MergeIdeal Cert.MergeIdeal.Gen Idealize.ShloMosaic Idealize.ShloMosaic.TcCoe Cert.Norm Cert.Merge

variable (x0 x1 : Vec Ideal S1x256x512 .bf16) (x2 x3 : Vec Ideal S1x256x1024 .f32) (x4 x5 x6 x7 : Vec Ideal S1x256x1024 .bf16)
  (x8 : Vec Ideal S1x256x1024 .f32) (x9 x10 x11 : Vec Ideal S1x1x1024 .f32) (x12 : Vec Ideal S1x1024 .f32) (x13 : Vec Ideal S1x256 .f32)
  (x14 x15 : Vec Ideal S512x1024 .bf16) (x16 x17 : Vec Ideal S1024x1024 .bf16) (r : Fin 256)

/-- The four heads of a block, side by side. -/
def ocBlk : FVec Ideal S256x1024 .bf16 :=
  k0_pay6 (k0_pay1 x2 x3) (k0_pay2 x4) (k0_pay3 x2 x3 x4 x13) (k0_pay4 x4) (k0_pay5 x2 x3) x13 x13 x13

/-- The mixture of a block. -/
def yBlk := k0_pay7 (ocBlk x2 x3 x4 x13) x5 x0 x14 x6 x1 x15 x7 x16

/-- The heads of one row. -/
def ocRowOf : Fin 1024 → EReal :=
  ocRow (fun h d => x2 (ix3 0 r (col h d)) + x3 (ix3 0 r (col h d))) (fun d => x13 (ix2 0 d)) (fun h d => x4 (ix3 0 r (col h d)))

/-- The mixture of one row. -/
def yRowOf : Fin 1024 → EReal :=
  yRow (fun j => x0 (ix3 0 r j)) (fun j => x1 (ix3 0 r j)) (ocRowOf x2 x3 x4 x13 r) (fun n => x5 (ix3 0 r n)) (fun n => x6 (ix3 0 r n)) (fun n => x7 (ix3 0 r n))
    (fun j n => x14 (ix2 j n)) (fun j n => x15 (ix2 j n)) (fun j n => x16 (ix2 j n))

/-- The residual of one row. -/
def xRowOf : Fin 1024 → EReal :=
  xRow (fun n => x8 (ix3 0 r n)) (fun n => x9 (ix3 0 0 n)) (yRowOf x0 x1 x2 x3 x4 x5 x6 x7 x13 x14 x15 x16 r) (fun j n => x17 (ix2 j n))

/-- The four blocks laid side by side, read in the first. -/
theorem side0 (v4 v7 : FVec Ideal S256x1024 .f32) (v26 v33 v38 : FVec Ideal S256x256 .f32) (k : Fin 1024) (d : Fin 256) (hk : k.val = d.val) :
    k0_pay6 (F := Ideal) v4 v7 v26 v33 v38 x13 x13 x13 (ix2 r k) = v26 (ix2 r d) := by
  obtain ⟨d, hd⟩ := d
  obtain rfl : d = k.val := by simp only at hk; omega
  have h0 : k.val < 256 := by omega
  pointwise [k0_pay6]
  exact dif_pos h0

/-- Read in the second. -/
theorem side1 (v4 v7 : FVec Ideal S256x1024 .f32) (v26 v33 v38 : FVec Ideal S256x256 .f32) (k : Fin 1024) (d : Fin 256) (hk : k.val = 256 + d.val) :
    k0_pay6 (F := Ideal) v4 v7 v26 v33 v38 x13 x13 x13 (ix2 r k) = v38 (ix2 r d) * x13 (ix2 0 d) * (v33 (ix2 r d) * Ideal.logistic (v33 (ix2 r d))) := by
  obtain ⟨d, hd⟩ := d
  obtain rfl : d = k.val - 256 := by simp only at hk; omega
  have h0 : ¬ k.val < 256 := by omega
  have h1 : k.val - 256 < 256 := by omega
  pointwise [k0_pay6]
  exact (dif_neg h0).trans (dif_pos h1)

/-- Read in the third. -/
theorem side2 (v4 v7 : FVec Ideal S256x1024 .f32) (v26 v33 v38 : FVec Ideal S256x256 .f32) (k : Fin 1024) (d : Fin 256) (hk : k.val = 512 + d.val) :
    k0_pay6 (F := Ideal) v4 v7 v26 v33 v38 x13 x13 x13 (ix2 r k) = headRow (fun d => v4 (ix2 r (col 2 d))) (fun d => x13 (ix2 0 d)) (fun d => v7 (ix2 r (col 2 d))) d := by
  obtain ⟨d, hd⟩ := d
  obtain rfl : d = k.val - 256 - 256 := by simp only at hk; omega
  have h0 : ¬ k.val < 256 := by omega
  have h1 : ¬ k.val - 256 < 256 := by omega
  have h2 : k.val - 256 - 256 < 256 := by omega
  pointwise [k0_pay6]
  exact (dif_neg h0).trans ((dif_neg h1).trans (dif_pos h2))

/-- Read in the last. -/
theorem side3 (v4 v7 : FVec Ideal S256x1024 .f32) (v26 v33 v38 : FVec Ideal S256x256 .f32) (k : Fin 1024) (d : Fin 256) (hk : k.val = 768 + d.val) :
    k0_pay6 (F := Ideal) v4 v7 v26 v33 v38 x13 x13 x13 (ix2 r k) = headRow (fun d => v4 (ix2 r (col 3 d))) (fun d => x13 (ix2 0 d)) (fun d => v7 (ix2 r (col 3 d))) d := by
  obtain ⟨d, hd⟩ := d
  obtain rfl : d = k.val - 256 - 256 - 256 := by simp only at hk; omega
  have h0 : ¬ k.val < 256 := by omega
  have h1 : ¬ k.val - 256 < 256 := by omega
  have h2 : ¬ k.val - 256 - 256 < 256 := by omega
  pointwise [k0_pay6]
  exact (dif_neg h0).trans ((dif_neg h1).trans (dif_neg h2))

/-- One head's columns. -/
theorem ocBlk_col (h : Fin 4) (d : Fin 256) : ocBlk x2 x3 x4 x13 (ix2 r (col h d))
    = headRow (fun d => x2 (ix3 0 r (col h d)) + x3 (ix3 0 r (col h d))) (fun d => x13 (ix2 0 d)) (fun d => x4 (ix3 0 r (col h d))) d := by
  unfold ocBlk
  obtain ⟨n, hn⟩ := h
  interval_cases n
  · rw [side0 x13 r _ _ _ _ _ _ d (by show 0 * 256 + d.val = _; omega)]
    pointwise [k0_pay3, k0_pay2, k0_pay1, headRow, col]
  · rw [side1 x13 r _ _ _ _ _ _ d (by show 1 * 256 + d.val = _; omega)]
    pointwise [k0_pay5, k0_pay4, k0_pay2, k0_pay1, headRow, col]
  · rw [side2 x13 r _ _ _ _ _ _ d (by show 2 * 256 + d.val = _; omega)]
    pointwise [k0_pay2, k0_pay1, headRow, col]
  · rw [side3 x13 r _ _ _ _ _ _ d (by show 3 * 256 + d.val = _; omega)]
    pointwise [k0_pay2, k0_pay1, headRow, col]

/-- One row of the heads. -/
theorem ocBlk_apply (k : Fin 1024) : ocBlk x2 x3 x4 x13 (ix2 r k) = ocRowOf x2 x3 x4 x13 r k := by
  have hk : k = col ⟨k.val / 256, by omega⟩ ⟨k.val % 256, by omega⟩ := Fin.ext (by show k.val = k.val / 256 * 256 + k.val % 256; omega)
  exact (congrArg (fun q => ocBlk x2 x3 x4 x13 (ix2 r q)) hk).trans (ocBlk_col x2 x3 x4 x13 r _ _)

/-- One row of the mixture. -/
theorem yBlk_apply (k : Fin 1024) : yBlk x0 x1 x2 x3 x4 x5 x6 x7 x13 x14 x15 x16 (ix2 r k) = yRowOf x0 x1 x2 x3 x4 x5 x6 x7 x13 x14 x15 x16 r k := by
  pointwise [yBlk, k0_pay7, ocBlk_apply, yRowOf, yRow]

/-- The first stored block. -/
theorem x_apply (k : Fin 1024) : k0_pay10 (yBlk x0 x1 x2 x3 x4 x5 x6 x7 x13 x14 x15 x16) (k0_pay8 x8) x9 x17 (ix3 0 r k)
    = xRowOf x0 x1 x2 x3 x4 x5 x6 x7 x8 x9 x13 x14 x15 x16 x17 r k := by
  pointwise [k0_pay10, k0_pay9, k0_pay8, yBlk_apply, xRowOf, xRow]

/-- The second stored block. -/
theorem h_apply (k : Fin 1024) : k0_pay11 (yBlk x0 x1 x2 x3 x4 x5 x6 x7 x13 x14 x15 x16) (k0_pay8 x8) x9 x17 x12 x10 x11 (ix3 0 r k)
    = modRow (xRowOf x0 x1 x2 x3 x4 x5 x6 x7 x8 x9 x13 x14 x15 x16 x17 r) (fun n => x12 (ix2 0 n)) (fun n => x10 (ix3 0 0 n)) (fun n => x11 (ix3 0 0 n)) k := by
  pointwise [k0_pay11, k0_pay9, k0_pay8, yBlk_apply, xRowOf, xRow, modRow]

end Cert.MergeIdeal.Merge

end
-- ==== Proof.Merge.Reads.lean ====
/-
  What the launch's input blocks hold, in terms of the arguments.
-/
module

public import proofs.«01_k».proof.Proof.Merge.Pay
public import Idealize.ShloMosaic.Lib.Pipeline.ValueKit
public import Idealize.ShloMosaic.Lib.Pipeline.ValueKit.Point
public import Idealize.ShloMosaic.Lib.KernelVsHost

@[expose] public section

noncomputable section

namespace Cert.MergeIdeal.Merge

open Cert.MergeIdeal Cert.MergeIdeal.Gen Idealize.ShloMosaic Idealize.ShloMosaic.TcCoe Cert.Norm Cert.Merge

/-- Which block of each array a grid point reads and writes. -/
theorem idx : ∀ t : Fin cfg0.N,
    win0_0.index t = ![t.val / 64, t.val % 64, 0]
    ∧ win0_1.index t = ![t.val / 64, t.val % 64, 0]
    ∧ win0_2.index t = ![t.val / 64, t.val % 64, 0]
    ∧ win0_3.index t = ![t.val / 64, t.val % 64, 0]
    ∧ win0_4.index t = ![t.val / 64, t.val % 64, 1]
    ∧ win0_5.index t = ![t.val / 64, t.val % 64, 2]
    ∧ win0_6.index t = ![t.val / 64, t.val % 64, 3]
    ∧ win0_7.index t = ![t.val / 64, t.val % 64, 4]
    ∧ win0_8.index t = ![t.val / 64, t.val % 64, 0]
    ∧ win0_9.index t = ![t.val / 64, 0, 0]
    ∧ win0_10.index t = ![t.val / 64, 0, 0]
    ∧ win0_11.index t = ![t.val / 64, 0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![t.val / 64, t.val % 64, 0]
    ∧ win0_19.index t = ![t.val / 64, t.val % 64, 0] := by
  decide +kernel

variable (m : (ℓ : Loc nD τ sig) → Buf (Elt Ideal) ℓ) (c : Dev nD)

/-- The batch entry of a grid point. -/
def bOf (t : Fin cfg0.N) : Fin 2 := ⟨t.val / 64, by have h : t.val < 128 := t.isLt; omega⟩

/-- Row `r` of a grid point's block. -/
def row (t : Fin cfg0.N) (r : Fin 256) : Fin 16384 := ⟨t.val % 64 * 256 + r.val, by omega⟩

theorem read0 (t : Fin cfg0.N) (r : Fin 256) (j : Fin 512) :
    iblk m c 0 t (ix3 0 r j) = m ((c : Thread nD τ).loc main_arg0) (ix3 (bOf t) (row t r) j) := by
  blk_simp [iblk, idx t]
  entry_read
  pointwise
  blk_ext [idx t, bOf, row]

theorem read1 (t : Fin cfg0.N) (r : Fin 256) (j : Fin 512) :
    iblk m c 1 t (ix3 0 r j) = m ((c : Thread nD τ).loc main_arg1) (ix3 (bOf t) (row t r) j) := by
  blk_simp [iblk, idx t]
  entry_read
  pointwise
  blk_ext [idx t, bOf, row]

theorem read2 (t : Fin cfg0.N) (r : Fin 256) (h : Fin 4) (d : Fin 256) :
    iblk m c 2 t (ix3 0 r (col h d)) = m ((c : Thread nD τ).loc main_arg2) (ix4 (bOf t) (row t r) h d) := by
  blk_simp [iblk, idx t]
  entry_read
  pointwise
  blk_ext [idx t, col, bOf, row]

theorem read3 (t : Fin cfg0.N) (r : Fin 256) (h : Fin 4) (d : Fin 256) :
    iblk m c 3 t (ix3 0 r (col h d)) = m ((c : Thread nD τ).loc main_arg3) (ix4 (bOf t) (row t r) h d) := by
  blk_simp [iblk, idx t]
  entry_read
  pointwise
  blk_ext [idx t, col, bOf, row]

theorem read8 (t : Fin cfg0.N) (r : Fin 256) (k : Fin 1024) :
    iblk m c 8 t (ix3 0 r k) = m ((c : Thread nD τ).loc main_arg6) (ix3 (bOf t) (row t r) k) := by
  blk_simp [iblk, idx t]
  entry_read
  blk_ext [idx t, bOf, row]

theorem read9 (t : Fin cfg0.N) (k : Fin 1024) :
    iblk m c 9 t (ix3 0 0 k) = m ((c : Thread nD τ).loc main_arg7) (ix3 (bOf t) 0 k) := by
  blk_simp [iblk, idx t]
  entry_read
  blk_ext [idx t, bOf]

theorem read10 (t : Fin cfg0.N) (k : Fin 1024) :
    iblk m c 10 t (ix3 0 0 k) = m ((c : Thread nD τ).loc main_arg8) (ix3 (bOf t) 0 k) := by
  blk_simp [iblk, idx t]
  entry_read
  blk_ext [idx t, bOf]

theorem read11 (t : Fin cfg0.N) (k : Fin 1024) :
    iblk m c 11 t (ix3 0 0 k) = m ((c : Thread nD τ).loc main_arg9) (ix3 (bOf t) 0 k) := by
  blk_simp [iblk, idx t]
  entry_read
  blk_ext [idx t, bOf]

theorem read12 (t : Fin cfg0.N) (k : Fin 1024) :
    iblk m c 12 t (ix2 0 k) = m ((c : Thread nD τ).loc main_arg10) (ix1 k) := by
  blk_simp [iblk, idx t]
  entry_read
  pointwise
  blk_ext [idx t]

theorem read13 (t : Fin cfg0.N) (d : Fin 256) :
    iblk m c 13 t (ix2 0 d) = m ((c : Thread nD τ).loc main_arg11) (ix1 d) := by
  blk_simp [iblk, idx t]
  entry_read
  pointwise
  blk_ext [idx t]

theorem read14 (t : Fin cfg0.N) (j : Fin 512) (k : Fin 1024) :
    iblk m c 14 t (ix2 j k) = m ((c : Thread nD τ).loc main_arg12) (ix2 j k) := by
  blk_simp [iblk, idx t]
  entry_read
  pointwise
  blk_ext [idx t]

theorem read15 (t : Fin cfg0.N) (j : Fin 512) (k : Fin 1024) :
    iblk m c 15 t (ix2 j k) = m ((c : Thread nD τ).loc main_arg13) (ix2 j k) := by
  blk_simp [iblk, idx t]
  entry_read
  pointwise
  blk_ext [idx t]

theorem read16 (t : Fin cfg0.N) (j : Fin 1024) (k : Fin 1024) :
    iblk m c 16 t (ix2 j k) = m ((c : Thread nD τ).loc main_arg14) (ix2 j k) := by
  blk_simp [iblk, idx t]
  entry_read
  pointwise
  blk_ext [idx t]

theorem read17 (t : Fin cfg0.N) (j : Fin 1024) (k : Fin 1024) :
    iblk m c 17 t (ix2 j k) = m ((c : Thread nD τ).loc main_arg15) (ix2 j k) := by
  blk_simp [iblk, idx t]
  entry_read
  pointwise
  blk_ext [idx t]

/-- The column of feature `k` of column block `q` of 1024, in a row of the whole projection. -/
def pcol (q : Nat) (hq : q < 5) (k : Fin 1024) : Fin 8704 := ⟨q * 1024 + k.val, by omega⟩

/-- The gates placed into the projection's columns, read there. -/
theorem pad_apply (v : FVec Ideal S2x16384x4096 .bf16) (z : FVec Ideal S_ .bf16) (h1 h2) (b : Fin 2) (s : Fin 16384) (n : Fin 4096) (k : Fin 8704)
    (hk : k.val = 1024 + n.val) :
    pad S2x16384x8704 ![0, 0, 1024] ![0, 0, 3584] ![0, 0, 0] v z h1 h2 (ix3 b s k) = v (ix3 b s n) := by
  apply pad_apply_of_inside
  intro a
  fin_cases a
  · show b.val = 0 + b.val * (0 + 1)
    omega
  · show s.val = 0 + s.val * (0 + 1)
    omega
  · show k.val = 1024 + n.val * (0 + 1)
    omega

/-- The head gates, then the three path gates, side by side. -/
def gates : FVec Ideal S2x16384x4096 .f32 :=
  concatenate S2x16384x4096 2 [⟨S2x16384x1024, m ((c : Thread nD τ).loc main_arg4)⟩, ⟨S2x16384x3072, m ((c : Thread nD τ).loc main_arg5)⟩]
    concatenates_S2x16384x1024_S2x16384x3072_S2x16384x4096_d2

/-- What the launch finds in the padded array. -/
theorem entry_v2 : V m c main_v2 = pad S2x16384x8704 ![0, 0, 1024] ![0, 0, 3584] ![0, 0, 0] (truncf .bf16 (gates m c) bitsLt_bf16_f32)
    (constant S_ .bf16 0x0000#16) pads_S2x16384x4096_S2x16384x8704_000_000_102435840 h_S_ := by
  unfold gates
  entry_read
  rfl

/-- The padded array at a column of the head gates. -/
theorem v2_r (b : Fin 2) (s : Fin 16384) (k : Fin 1024) :
    V m c main_v2 (ix3 b s (pcol 1 (by omega) k)) = m ((c : Thread nD τ).loc main_arg4) (ix3 b s k) := by
  rw [entry_v2, pad_apply _ _ _ _ b s ⟨k.val, by omega⟩ _ (by show 1 * 1024 + k.val = 1024 + k.val; omega)]
  pointwise [gates]

/-- The padded array at a column of a path's gate. -/
theorem v2_g (g : Fin 3) (b : Fin 2) (s : Fin 16384) (k : Fin 1024) :
    V m c main_v2 (ix3 b s (pcol (g.val + 2) (by omega) k)) = m ((c : Thread nD τ).loc main_arg5) (ix3 b s (gcol g k)) := by
  have h0 : ¬ (g.val + 1) * 1024 + k.val < 1024 := by omega
  rw [entry_v2, pad_apply _ _ _ _ b s ⟨(g.val + 1) * 1024 + k.val, by omega⟩ _ (by show (g.val + 2) * 1024 + k.val = 1024 + ((g.val + 1) * 1024 + k.val); omega)]
  pointwise [gates]
  refine (dif_neg h0).trans (congrArg (fun n => m ((c : Thread nD τ).loc main_arg5) (ix3 b s n)) (Fin.ext ?_))
  show (g.val + 1) * 1024 + k.val - 1024 = g.val * 1024 + k.val
  omega

theorem off4 (t : Fin cfg0.N) : win0_4.index t 0 * win0_4.size 0 = t.val / 64 ∧ win0_4.index t 1 * win0_4.size 1 = t.val % 64 * 256
    ∧ win0_4.index t 2 * win0_4.size 2 = 1 * 1024 := by
  revert t; decide +kernel

theorem read4 (t : Fin cfg0.N) (r : Fin 256) (k : Fin 1024) :
    X0_4 m c t (ix3 0 r k) = m ((c : Thread nD τ).loc main_arg4) (ix3 (bOf t) (row t r) k) := by
  obtain ⟨y, hy⟩ : ∃ y : ((cfg0.win 4).xblock (cfg0.grid.coords t)).Idx, ∀ a, (y a).val = ((ix3 0 r k : S1x256x1024.Idx) a).val :=
    ⟨fun a => ⟨((ix3 0 r k : S1x256x1024.Idx) a).val, lt_of_lt_of_eq ((ix3 0 r k : S1x256x1024.Idx) a).isLt (xsize0_4 t a).symm⟩, fun _ => rfl⟩
  have e1 : (ix3 0 r k : S1x256x1024.Idx) = (cfg0.win 4).xinj (cfg0.grid.coords t) y := funext fun a => Fin.ext (hy a).symm
  have e2 : X0_4 m c t ((cfg0.win 4).xinj (cfg0.grid.coords t) y) = iblk m c 4 t y :=
    congrFun (Pipeline.Window.cut_fill (cfg0.win 4) (cfg0.grid.coords t) dflt0_4 (iblk m c 4 t)) y
  have e3 : ((View.whole main_v2).slice (win0_4.rect t)).emb y = ix3 (bOf t) (row t r) (pcol 1 (by omega) k) := by
    refine funext fun a => Fin.ext ?_
    match a with
    | ⟨0, _⟩ => exact (show _ = win0_4.index t 0 * win0_4.size 0 + 1 * (y 0).val from rfl).trans (by rw [(off4 t).1, hy 0]; rfl)
    | ⟨1, _⟩ => exact (show _ = win0_4.index t 1 * win0_4.size 1 + 1 * (y 1).val from rfl).trans (by rw [(off4 t).2.1, hy 1, Nat.one_mul]; rfl)
    | ⟨2, _⟩ => exact (show _ = win0_4.index t 2 * win0_4.size 2 + 1 * (y 2).val from rfl).trans (by rw [(off4 t).2.2, hy 2]; exact congrArg _ (Nat.one_mul _))
  have e4 : iblk m c 4 t y = V m c main_v2 (ix3 (bOf t) (row t r) (pcol 1 (by omega) k)) :=
    (show iblk m c 4 t y = V m c main_v2 (((View.whole main_v2).slice (win0_4.rect t)).emb y) from rfl).trans (congrArg (V m c main_v2) e3)
  exact (congrArg (X0_4 m c t) e1).trans (e2.trans (e4.trans (v2_r m c (bOf t) (row t r) k)))

theorem off5 (t : Fin cfg0.N) : win0_5.index t 0 * win0_5.size 0 = t.val / 64 ∧ win0_5.index t 1 * win0_5.size 1 = t.val % 64 * 256
    ∧ win0_5.index t 2 * win0_5.size 2 = 2 * 1024 := by
  revert t; decide +kernel

theorem read5 (t : Fin cfg0.N) (r : Fin 256) (k : Fin 1024) :
    X0_5 m c t (ix3 0 r k) = m ((c : Thread nD τ).loc main_arg5) (ix3 (bOf t) (row t r) (gcol 0 k)) := by
  obtain ⟨y, hy⟩ : ∃ y : ((cfg0.win 5).xblock (cfg0.grid.coords t)).Idx, ∀ a, (y a).val = ((ix3 0 r k : S1x256x1024.Idx) a).val :=
    ⟨fun a => ⟨((ix3 0 r k : S1x256x1024.Idx) a).val, lt_of_lt_of_eq ((ix3 0 r k : S1x256x1024.Idx) a).isLt (xsize0_5 t a).symm⟩, fun _ => rfl⟩
  have e1 : (ix3 0 r k : S1x256x1024.Idx) = (cfg0.win 5).xinj (cfg0.grid.coords t) y := funext fun a => Fin.ext (hy a).symm
  have e2 : X0_5 m c t ((cfg0.win 5).xinj (cfg0.grid.coords t) y) = iblk m c 5 t y :=
    congrFun (Pipeline.Window.cut_fill (cfg0.win 5) (cfg0.grid.coords t) dflt0_5 (iblk m c 5 t)) y
  have e3 : ((View.whole main_v2).slice (win0_5.rect t)).emb y = ix3 (bOf t) (row t r) (pcol 2 (by omega) k) := by
    refine funext fun a => Fin.ext ?_
    match a with
    | ⟨0, _⟩ => exact (show _ = win0_5.index t 0 * win0_5.size 0 + 1 * (y 0).val from rfl).trans (by rw [(off5 t).1, hy 0]; rfl)
    | ⟨1, _⟩ => exact (show _ = win0_5.index t 1 * win0_5.size 1 + 1 * (y 1).val from rfl).trans (by rw [(off5 t).2.1, hy 1, Nat.one_mul]; rfl)
    | ⟨2, _⟩ => exact (show _ = win0_5.index t 2 * win0_5.size 2 + 1 * (y 2).val from rfl).trans (by rw [(off5 t).2.2, hy 2]; exact congrArg _ (Nat.one_mul _))
  have e4 : iblk m c 5 t y = V m c main_v2 (ix3 (bOf t) (row t r) (pcol 2 (by omega) k)) :=
    (show iblk m c 5 t y = V m c main_v2 (((View.whole main_v2).slice (win0_5.rect t)).emb y) from rfl).trans (congrArg (V m c main_v2) e3)
  exact (congrArg (X0_5 m c t) e1).trans (e2.trans (e4.trans (v2_g m c 0 (bOf t) (row t r) k)))

theorem off6 (t : Fin cfg0.N) : win0_6.index t 0 * win0_6.size 0 = t.val / 64 ∧ win0_6.index t 1 * win0_6.size 1 = t.val % 64 * 256
    ∧ win0_6.index t 2 * win0_6.size 2 = 3 * 1024 := by
  revert t; decide +kernel

theorem read6 (t : Fin cfg0.N) (r : Fin 256) (k : Fin 1024) :
    X0_6 m c t (ix3 0 r k) = m ((c : Thread nD τ).loc main_arg5) (ix3 (bOf t) (row t r) (gcol 1 k)) := by
  obtain ⟨y, hy⟩ : ∃ y : ((cfg0.win 6).xblock (cfg0.grid.coords t)).Idx, ∀ a, (y a).val = ((ix3 0 r k : S1x256x1024.Idx) a).val :=
    ⟨fun a => ⟨((ix3 0 r k : S1x256x1024.Idx) a).val, lt_of_lt_of_eq ((ix3 0 r k : S1x256x1024.Idx) a).isLt (xsize0_6 t a).symm⟩, fun _ => rfl⟩
  have e1 : (ix3 0 r k : S1x256x1024.Idx) = (cfg0.win 6).xinj (cfg0.grid.coords t) y := funext fun a => Fin.ext (hy a).symm
  have e2 : X0_6 m c t ((cfg0.win 6).xinj (cfg0.grid.coords t) y) = iblk m c 6 t y :=
    congrFun (Pipeline.Window.cut_fill (cfg0.win 6) (cfg0.grid.coords t) dflt0_6 (iblk m c 6 t)) y
  have e3 : ((View.whole main_v2).slice (win0_6.rect t)).emb y = ix3 (bOf t) (row t r) (pcol 3 (by omega) k) := by
    refine funext fun a => Fin.ext ?_
    match a with
    | ⟨0, _⟩ => exact (show _ = win0_6.index t 0 * win0_6.size 0 + 1 * (y 0).val from rfl).trans (by rw [(off6 t).1, hy 0]; rfl)
    | ⟨1, _⟩ => exact (show _ = win0_6.index t 1 * win0_6.size 1 + 1 * (y 1).val from rfl).trans (by rw [(off6 t).2.1, hy 1, Nat.one_mul]; rfl)
    | ⟨2, _⟩ => exact (show _ = win0_6.index t 2 * win0_6.size 2 + 1 * (y 2).val from rfl).trans (by rw [(off6 t).2.2, hy 2]; exact congrArg _ (Nat.one_mul _))
  have e4 : iblk m c 6 t y = V m c main_v2 (ix3 (bOf t) (row t r) (pcol 3 (by omega) k)) :=
    (show iblk m c 6 t y = V m c main_v2 (((View.whole main_v2).slice (win0_6.rect t)).emb y) from rfl).trans (congrArg (V m c main_v2) e3)
  exact (congrArg (X0_6 m c t) e1).trans (e2.trans (e4.trans (v2_g m c 1 (bOf t) (row t r) k)))

theorem off7 (t : Fin cfg0.N) : win0_7.index t 0 * win0_7.size 0 = t.val / 64 ∧ win0_7.index t 1 * win0_7.size 1 = t.val % 64 * 256
    ∧ win0_7.index t 2 * win0_7.size 2 = 4 * 1024 := by
  revert t; decide +kernel

theorem read7 (t : Fin cfg0.N) (r : Fin 256) (k : Fin 1024) :
    X0_7 m c t (ix3 0 r k) = m ((c : Thread nD τ).loc main_arg5) (ix3 (bOf t) (row t r) (gcol 2 k)) := by
  obtain ⟨y, hy⟩ : ∃ y : ((cfg0.win 7).xblock (cfg0.grid.coords t)).Idx, ∀ a, (y a).val = ((ix3 0 r k : S1x256x1024.Idx) a).val :=
    ⟨fun a => ⟨((ix3 0 r k : S1x256x1024.Idx) a).val, lt_of_lt_of_eq ((ix3 0 r k : S1x256x1024.Idx) a).isLt (xsize0_7 t a).symm⟩, fun _ => rfl⟩
  have e1 : (ix3 0 r k : S1x256x1024.Idx) = (cfg0.win 7).xinj (cfg0.grid.coords t) y := funext fun a => Fin.ext (hy a).symm
  have e2 : X0_7 m c t ((cfg0.win 7).xinj (cfg0.grid.coords t) y) = iblk m c 7 t y :=
    congrFun (Pipeline.Window.cut_fill (cfg0.win 7) (cfg0.grid.coords t) dflt0_7 (iblk m c 7 t)) y
  have e3 : ((View.whole main_v2).slice (win0_7.rect t)).emb y = ix3 (bOf t) (row t r) (pcol 4 (by omega) k) := by
    refine funext fun a => Fin.ext ?_
    match a with
    | ⟨0, _⟩ => exact (show _ = win0_7.index t 0 * win0_7.size 0 + 1 * (y 0).val from rfl).trans (by rw [(off7 t).1, hy 0]; rfl)
    | ⟨1, _⟩ => exact (show _ = win0_7.index t 1 * win0_7.size 1 + 1 * (y 1).val from rfl).trans (by rw [(off7 t).2.1, hy 1, Nat.one_mul]; rfl)
    | ⟨2, _⟩ => exact (show _ = win0_7.index t 2 * win0_7.size 2 + 1 * (y 2).val from rfl).trans (by rw [(off7 t).2.2, hy 2]; exact congrArg _ (Nat.one_mul _))
  have e4 : iblk m c 7 t y = V m c main_v2 (ix3 (bOf t) (row t r) (pcol 4 (by omega) k)) :=
    (show iblk m c 7 t y = V m c main_v2 (((View.whole main_v2).slice (win0_7.rect t)).emb y) from rfl).trans (congrArg (V m c main_v2) e3)
  exact (congrArg (X0_7 m c t) e1).trans (e2.trans (e4.trans (v2_g m c 2 (bOf t) (row t r) k)))

end Cert.MergeIdeal.Merge

end
-- ==== Proof.Merge.Out.lean ====
/-
  The two staged output blocks after the body, as what the body stores.
-/
module

public import proofs.«01_k».proof.Proof.Merge.Pay
public import Idealize.ShloMosaic.Lib.Pipeline.ValueKit

@[expose] public section

noncomputable section

namespace Cert.MergeIdeal.Merge

open Cert.MergeIdeal Cert.MergeIdeal.Gen Idealize.ShloMosaic Cert.Norm Cert.Merge

theorem hz3 : (![0, 0, 0] : Fin 3 → Nat) = fun _ => 0 := by decide
theorem hz2 : (![0, 0] : Fin 2 → Nat) = fun _ => 0 := by decide

/-- The first output's block. -/
theorem out18_eq (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x256x1024 .bf16) (harg9 : arg9.IsWhole) (arg10 : Memref sig .tc .vmem S1x256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x256 .f32) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S1x256x1024 .f32) (harg20 : arg20.IsWhole) (arg21 : Memref sig .tc .vmem S1x256x1024 .f32) (harg21 : arg21.IsWhole)
    (x0 : Vec Ideal S1x256x512 .bf16) (x1 : Vec Ideal S1x256x512 .bf16) (x2 : Vec Ideal S1x256x1024 .f32) (x3 : Vec Ideal S1x256x1024 .f32) (x4 : Vec Ideal S1x256x1024 .bf16) (x5 : Vec Ideal S1x256x1024 .bf16) (x6 : Vec Ideal S1x256x1024 .bf16) (x7 : Vec Ideal S1x256x1024 .bf16) (x8 : Vec Ideal S1x256x1024 .f32) (x9 : Vec Ideal S1x1x1024 .f32) (x10 : Vec Ideal S1x1x1024 .f32) (x11 : Vec Ideal S1x1x1024 .f32) (x12 : Vec Ideal S1x1024 .f32) (x13 : Vec Ideal S1x256 .f32) (x14 : Vec Ideal S512x1024 .bf16) (x15 : Vec Ideal S512x1024 .bf16) (x16 : Vec Ideal S1024x1024 .bf16) (x17 : Vec Ideal S1024x1024 .bf16) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 = k0_pay10 (yBlk x0 x1 x2 x3 x4 x5 x6 x7 x13 x14 x15 x16) (k0_pay8 x8) x9 x17 := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S1x256x512) hz3, View.ld_unit_zero (S := S1x256x1024) hz3, View.ld_unit_zero (S := S1x1x1024) hz3, View.ld_unit_zero (S := S1x1024) hz2, View.ld_unit_zero (S := S1x256) hz2, View.ld_unit_zero (S := S512x1024) hz2, View.ld_unit_zero (S := S1024x1024) hz2]
  rfl

/-- The second output's block. -/
theorem out19_eq (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x256x1024 .bf16) (harg9 : arg9.IsWhole) (arg10 : Memref sig .tc .vmem S1x256x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x256 .f32) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S1x256x1024 .f32) (harg20 : arg20.IsWhole) (arg21 : Memref sig .tc .vmem S1x256x1024 .f32) (harg21 : arg21.IsWhole)
    (x0 : Vec Ideal S1x256x512 .bf16) (x1 : Vec Ideal S1x256x512 .bf16) (x2 : Vec Ideal S1x256x1024 .f32) (x3 : Vec Ideal S1x256x1024 .f32) (x4 : Vec Ideal S1x256x1024 .bf16) (x5 : Vec Ideal S1x256x1024 .bf16) (x6 : Vec Ideal S1x256x1024 .bf16) (x7 : Vec Ideal S1x256x1024 .bf16) (x8 : Vec Ideal S1x256x1024 .f32) (x9 : Vec Ideal S1x1x1024 .f32) (x10 : Vec Ideal S1x1x1024 .f32) (x11 : Vec Ideal S1x1x1024 .f32) (x12 : Vec Ideal S1x1024 .f32) (x13 : Vec Ideal S1x256 .f32) (x14 : Vec Ideal S512x1024 .bf16) (x15 : Vec Ideal S512x1024 .bf16) (x16 : Vec Ideal S1024x1024 .bf16) (x17 : Vec Ideal S1024x1024 .bf16) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 = k0_pay11 (yBlk x0 x1 x2 x3 x4 x5 x6 x7 x13 x14 x15 x16) (k0_pay8 x8) x9 x17 x12 x10 x11 := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S1x256x512) hz3, View.ld_unit_zero (S := S1x256x1024) hz3, View.ld_unit_zero (S := S1x1x1024) hz3, View.ld_unit_zero (S := S1x1024) hz2, View.ld_unit_zero (S := S1x256) hz2, View.ld_unit_zero (S := S512x1024) hz2, View.ld_unit_zero (S := S1024x1024) hz2]
  rfl

end Cert.MergeIdeal.Merge

end
-- ==== Proof.Merge.Ref.lean ====
/-
  The reference's two results, at one token.
-/
module

public import proofs.«01_k».proof.Proof.Merge.Row
public import proofs.«01_k».proof.Proof.Gen.MergeRefIdeal.Read
public import Idealize.ShloMosaic.Lib.Pointwise

@[expose] public section

noncomputable section

namespace Cert.MergeRefIdeal.Merge

open Cert.MergeRefIdeal Cert.MergeRefIdeal.Read Idealize.ShloMosaic Cert.Norm Cert.Merge

variable (x0 x1 : (⟨S2x16384x512, .f32⟩ : BufTy).Contents (Elt Ideal)) (x2 x3 : (⟨S2x16384x4x256, .f32⟩ : BufTy).Contents (Elt Ideal)) (x4 : (⟨S2x16384x1024, .f32⟩ : BufTy).Contents (Elt Ideal)) (x5 : (⟨S2x16384x3072, .f32⟩ : BufTy).Contents (Elt Ideal)) (x6 : (⟨S2x16384x1024, .f32⟩ : BufTy).Contents (Elt Ideal)) (x7 : (⟨S2x1x1024, .f32⟩ : BufTy).Contents (Elt Ideal)) (x8 x9 : (⟨S2x1x1024, .f32⟩ : BufTy).Contents (Elt Ideal)) (x10 : (⟨S1024, .f32⟩ : BufTy).Contents (Elt Ideal)) (x11 : (⟨S256, .f32⟩ : BufTy).Contents (Elt Ideal)) (x12 x13 : (⟨S512x1024, .f32⟩ : BufTy).Contents (Elt Ideal)) (x14 : (⟨S1024x1024, .f32⟩ : BufTy).Contents (Elt Ideal)) (x15 : (⟨S1024x1024, .f32⟩ : BufTy).Contents (Elt Ideal)) (b : Fin 2) (s : Fin 16384)

/-- One head's gated output. -/
theorem head_apply (h : Fin 4) (d : Fin 256) : val_main_v16 (F := Ideal) x2 x3 x4 x11 (ix4 b s h d)
    = headRow (fun x => x2 (ix4 b s h x) + x3 (ix4 b s h x)) (fun x => x11 (ix1 x)) (fun x => x4 (ix3 b s (col h x))) d := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_call0_v5, val_main_call0_v4, val_main_call0_v3, val_main_call0_v2, val_main_call0_v1, val_main_call0_v0, val_main_cst, val_main_cst_0, val_main_cst_1, val_main_call0_cst, val_main_call0_cst_0, headRow, col, Ideal.logistic]

/-- The heads side by side. -/
theorem oc_apply (k : Fin 1024) : val_main_v17 (F := Ideal) x2 x3 x4 x11 (ix3 b s k)
    = ocRow (fun h x => x2 (ix4 b s h x) + x3 (ix4 b s h x)) (fun x => x11 (ix1 x)) (fun h x => x4 (ix3 b s (col h x))) k := by
  pointwise [val_main_v17]
  exact head_apply x2 x3 x4 x11 b s _ _

/-- The mixture of the three paths. -/
theorem y_apply (k : Fin 1024) : val_main_v46 (F := Ideal) x0 x1 x2 x3 x4 x5 x11 x12 x13 x14 (ix3 b s k)
    = yRow (fun j => x0 (ix3 b s j)) (fun j => x1 (ix3 b s j)) (ocRow (fun h x => x2 (ix4 b s h x) + x3 (ix4 b s h x)) (fun x => x11 (ix1 x)) (fun h x => x4 (ix3 b s (col h x)))) (fun n => x5 (ix3 b s (gcol 0 n))) (fun n => x5 (ix3 b s (gcol 1 n))) (fun n => x5 (ix3 b s (gcol 2 n))) (fun j n => x12 (ix2 j n)) (fun j n => x13 (ix2 j n)) (fun j n => x14 (ix2 j n)) k := by
  pointwise [val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_cst_2, val_main_cst_3, val_main_cst_4, val_main_cst_5, val_main_cst_6, val_main_cst_7, oc_apply, yRow, gcol, Ideal.logistic]

/-- The mixture at a token, as a row. -/
def yAt : Fin 1024 → EReal :=
  yRow (fun j => x0 (ix3 b s j)) (fun j => x1 (ix3 b s j)) (ocRow (fun h x => x2 (ix4 b s h x) + x3 (ix4 b s h x)) (fun x => x11 (ix1 x)) (fun h x => x4 (ix3 b s (col h x)))) (fun n => x5 (ix3 b s (gcol 0 n))) (fun n => x5 (ix3 b s (gcol 1 n))) (fun n => x5 (ix3 b s (gcol 2 n))) (fun j n => x12 (ix2 j n)) (fun j n => x13 (ix2 j n)) (fun j n => x14 (ix2 j n))

/-- The residual at a token, as a row. -/
def xAt : Fin 1024 → EReal :=
  xRow (fun n => x6 (ix3 b s n)) (fun n => x7 (ix3 b 0 n)) (yAt x0 x1 x2 x3 x4 x5 x11 x12 x13 x14 b s) (fun j n => x15 (ix2 j n))

/-- The first result. -/
theorem x_apply (k : Fin 1024) : val_main_v50 (F := Ideal) x0 x1 x2 x3 x4 x5 x6 x7 x11 x12 x13 x14 x15 (ix3 b s k)
    = xAt x0 x1 x2 x3 x4 x5 x6 x7 x11 x12 x13 x14 x15 b s k := by
  pointwise [val_main_v47, val_main_v48, val_main_v49, val_main_v50, y_apply, xAt, xRow, yAt]

/-- The second result. -/
theorem h_apply (k : Fin 1024) : val_main_v69 (F := Ideal) x0 x1 x2 x3 x4 x5 x6 x7 x8 x9 x10 x11 x12 x13 x14 x15 (ix3 b s k)
    = modRow (xAt x0 x1 x2 x3 x4 x5 x6 x7 x11 x12 x13 x14 x15 b s) (fun n => x10 (ix1 n)) (fun n => x8 (ix3 b 0 n)) (fun n => x9 (ix3 b 0 n)) k := by
  pointwise [val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_cst_8, val_main_cst_9, val_main_cst_10, val_main_cst_11, x_apply, modRow]

end Cert.MergeRefIdeal.Merge

end
-- ==== Proof.Merge.Final.lean ====
/-
  The two whole result arrays after the launch are the reference's results.
-/
module

public import proofs.«01_k».proof.Proof.Merge.Reads
public import proofs.«01_k».proof.Proof.Merge.Out
public import proofs.«01_k».proof.Proof.Merge.Ref

@[expose] public section

noncomputable section

namespace Cert.MergeIdeal.Merge

open Cert.MergeIdeal Cert.MergeIdeal.Gen Idealize.ShloMosaic Idealize.ShloMosaic.TcCoe Cert.Norm Cert.Merge Idealize.SL.Sem

variable (m : (ℓ : Loc nD τ sig) → Buf (Elt Ideal) ℓ) (c : Dev nD)

/-- A row of the residual, from the blocks of a grid point, is the reference's. -/
theorem xRowOf_eq (t : Fin cfg0.N) (r : Fin 256) :
    xRowOf (iblk m c 0 t) (iblk m c 1 t) (iblk m c 2 t) (iblk m c 3 t) (X0_4 m c t) (X0_5 m c t) (X0_6 m c t) (X0_7 m c t) (iblk m c 8 t) (iblk m c 9 t) (iblk m c 13 t) (iblk m c 14 t) (iblk m c 15 t) (iblk m c 16 t) (iblk m c 17 t) r
      = Cert.MergeRefIdeal.Merge.xAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15)) (bOf t) (row t r) := by
  unfold xRowOf yRowOf ocRowOf Cert.MergeRefIdeal.Merge.xAt Cert.MergeRefIdeal.Merge.yAt
  simp only [read0, read1, read2, read3, read4, read5, read6, read7, read8, read9, read13, read14, read15, read16, read17]

/-- The reference's first result on the kernel's arguments. -/
def result18 : FVec Ideal S2x16384x1024 .f32 :=
  Cert.MergeRefIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15))

/-- The reference's second result on the kernel's arguments. -/
def result19 : FVec Ideal S2x16384x1024 .f32 :=
  Cert.MergeRefIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-! The first result. -/

theorem xs18 (t : Fin cfg0.N) : ∀ a, win0_18.xsize (grid0.coords t) a = S1x256x1024.size a := by
  revert t; decide +kernel

theorem off18 (t : Fin cfg0.N) : win0_18.index t 0 * win0_18.size 0 = t.val / 64 ∧ win0_18.index t 1 * win0_18.size 1 = t.val % 64 * 256
    ∧ win0_18.index t 2 * win0_18.size 2 = 0 := by
  revert t; decide +kernel

/-- An index of the result's block at a grid point lies in the array at the block's rows and the same column. -/
theorem emb_blk18 (t : Fin cfg0.N) (y : (win0_18.xblock (grid0.coords t)).Idx) (r : Fin 256) (k : Fin 1024) (h1 : (y 1).val = r.val) (h2 : (y 2).val = k.val)
    (h0 : (y 0).val = 0) :
    ((View.whole main_v13_0).slice (win0_18.rect t)).emb y = ix3 (bOf t) (row t r) k := by
  refine funext fun a => Fin.ext ?_
  match a with
  | ⟨0, _⟩ => exact (show _ = win0_18.index t 0 * win0_18.size 0 + 1 * (y 0).val from rfl).trans (by rw [(off18 t).1, h0]; rfl)
  | ⟨1, _⟩ => exact (show _ = win0_18.index t 1 * win0_18.size 1 + 1 * (y 1).val from rfl).trans (by rw [(off18 t).2.1, h1, Nat.one_mul]; rfl)
  | ⟨2, _⟩ => exact (show _ = win0_18.index t 2 * win0_18.size 2 + 1 * (y 2).val from rfl).trans (by rw [(off18 t).2.2, h2, Nat.one_mul, Nat.zero_add]; rfl)

/-- The block of an array that a grid point's write-back covers, read at an index. -/
theorem read_blk18 (G : Buf (Elt Ideal) ((c : Thread nD τ).loc main_v13_0)) (t : Fin cfg0.N) (y : (win0_18.xblock (grid0.coords t)).Idx) (r : Fin 256) (k : Fin 1024)
    (h1 : (y 1).val = r.val) (h2 : (y 2).val = k.val) (h0 : (y 0).val = 0) :
    ((cfg0.win 18).blk t).view.read (Elt Ideal) G y = G (ix3 (bOf t) (row t r) k) := by
  rw [← emb_blk18 t y r k h1 h2 h0]
  rfl

/-- A block's contents, read where the write-back moves them. -/
theorem cut_blk18 (X : Vec Ideal S1x256x1024 .f32) (t : Fin cfg0.N) (y : (win0_18.xblock (grid0.coords t)).Idx) (r : Fin 256) (k : Fin 1024)
    (h1 : (y 1).val = r.val) (h2 : (y 2).val = k.val) (h0 : (y 0).val = 0) :
    (cfg0.win 18).cut (grid0.coords t) X y = X (ix3 0 r k) := by
  show X (win0_18.xinj (grid0.coords t) y) = _
  refine congrArg X (funext fun a => Fin.ext ?_)
  match a with
  | ⟨0, _⟩ => exact h0
  | ⟨1, _⟩ => exact h1
  | ⟨2, _⟩ => exact h2

theorem ix_bounds18 (t : Fin cfg0.N) (y : (win0_18.xblock (grid0.coords t)).Idx) : (y 0).val < 1 ∧ (y 1).val < 256 ∧ (y 2).val < 1024 :=
  ⟨lt_of_lt_of_eq (y 0).isLt (xs18 t 0), lt_of_lt_of_eq (y 1).isLt (xs18 t 1), lt_of_lt_of_eq (y 2).isLt (xs18 t 2)⟩

/-- A staged output block is its block of the reference's result. -/
theorem block_final18 (t : Fin cfg0.N) (r : Fin 256) (k : Fin 1024) :
    out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (X0_4 m c t) (X0_5 m c t) (X0_6 m c t) (X0_7 m c t) (iblk m c 8 t) (iblk m c 9 t) (iblk m c 10 t) (iblk m c 11 t) (iblk m c 12 t) (iblk m c 13 t) (iblk m c 14 t) (iblk m c 15 t) (iblk m c 16 t) (iblk m c 17 t) (ix3 0 r k)
      = result18 m c (ix3 (bOf t) (row t r) k) := by
  rw [out18_eq, x_apply, xRowOf_eq]
  exact (Cert.MergeRefIdeal.Merge.x_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15)) (bOf t) (row t r) k).symm

/-- What a grid point writes back is its block of the reference's result. -/
theorem flushed_eq18 (t : Fin cfg0.N) :
    (dats m 0 c).flushed 18 t = ((cfg0.win 18).blk t).view.read (Elt Ideal) (result18 m c) := by
  rw [Value.flushed18_A]
  refine funext fun y => ?_
  obtain ⟨y0, y1, y2⟩ := ix_bounds18 t y
  have hy := block_final18 m c t ⟨(y 1).val, y1⟩ ⟨(y 2).val, y2⟩
  have e1 := cut_blk18 (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (X0_4 m c t) (X0_5 m c t) (X0_6 m c t) (X0_7 m c t) (iblk m c 8 t) (iblk m c 9 t) (iblk m c 10 t) (iblk m c 11 t) (iblk m c 12 t) (iblk m c 13 t) (iblk m c 14 t) (iblk m c 15 t) (iblk m c 16 t) (iblk m c 17 t)) t y ⟨(y 1).val, y1⟩ ⟨(y 2).val, y2⟩ rfl rfl (by omega)
  have e2 := read_blk18 c (result18 m c) t y ⟨(y 1).val, y1⟩ ⟨(y 2).val, y2⟩ rfl rfl (by omega)
  exact e1.trans (hy.trans e2.symm)

/-- Every index of the result lies in the block of some grid point. -/
theorem cover18 (i : S2x16384x1024.Idx) : ∃ t : Fin cfg0.N, (cfg0.win 18).flush t = true ∧ i ∈ ((cfg0.win 18).blk t).view.set := by
  have i0 : (i 0).val < 2 := (i 0).isLt
  have i1 : (i 1).val < 16384 := (i 1).isLt
  have i2 : (i 2).val < 1024 := (i 2).isLt
  have hN : (i 0).val * 64 + (i 1).val / 256 < cfg0.N := by show _ < 128; omega
  refine ⟨⟨(i 0).val * 64 + (i 1).val / 256, hN⟩, flush0_18 _, ?_⟩
  generalize hT : (⟨(i 0).val * 64 + (i 1).val / 256, hN⟩ : Fin cfg0.N) = T
  have hv : T.val = (i 0).val * 64 + (i 1).val / 256 := by rw [← hT]
  show i ∈ ((View.whole main_v13_0).slice (win0_18.rect T)).set
  rw [View.set_slice_whole, Rect.mem_set_unit]
  intro a
  match a with
  | ⟨0, _⟩ =>
    show win0_18.index T 0 * win0_18.size 0 ≤ (i 0 : Nat) ∧ (i 0 : Nat) < win0_18.index T 0 * win0_18.size 0 + win0_18.xsize (grid0.coords T) 0
    rw [(off18 T).1, xs18 T 0]
    show _ ∧ (i 0 : Nat) < _ + 1
    omega
  | ⟨1, _⟩ =>
    show win0_18.index T 1 * win0_18.size 1 ≤ (i 1 : Nat) ∧ (i 1 : Nat) < win0_18.index T 1 * win0_18.size 1 + win0_18.xsize (grid0.coords T) 1
    rw [(off18 T).2.1, xs18 T 1]
    show _ ∧ (i 1 : Nat) < _ + 256
    omega
  | ⟨2, _⟩ =>
    show win0_18.index T 2 * win0_18.size 2 ≤ (i 2 : Nat) ∧ (i 2 : Nat) < win0_18.index T 2 * win0_18.size 2 + win0_18.xsize (grid0.coords T) 2
    rw [(off18 T).2.2, xs18 T 2]
    show _ ∧ (i 2 : Nat) < _ + 1024
    omega

/-- The first result array at the end. -/
theorem final18 : (dats m 0 c).arrAt 18 cfg0.N = result18 m c :=
  (dats m 0 c).arrAt_eq_of_cover 18 (result18 m c) (fun t _ => flushed_eq18 m c t) cover18

/-! The second result. -/

theorem xs19 (t : Fin cfg0.N) : ∀ a, win0_19.xsize (grid0.coords t) a = S1x256x1024.size a := by
  revert t; decide +kernel

theorem off19 (t : Fin cfg0.N) : win0_19.index t 0 * win0_19.size 0 = t.val / 64 ∧ win0_19.index t 1 * win0_19.size 1 = t.val % 64 * 256
    ∧ win0_19.index t 2 * win0_19.size 2 = 0 := by
  revert t; decide +kernel

/-- An index of the result's block at a grid point lies in the array at the block's rows and the same column. -/
theorem emb_blk19 (t : Fin cfg0.N) (y : (win0_19.xblock (grid0.coords t)).Idx) (r : Fin 256) (k : Fin 1024) (h1 : (y 1).val = r.val) (h2 : (y 2).val = k.val)
    (h0 : (y 0).val = 0) :
    ((View.whole main_v13_1).slice (win0_19.rect t)).emb y = ix3 (bOf t) (row t r) k := by
  refine funext fun a => Fin.ext ?_
  match a with
  | ⟨0, _⟩ => exact (show _ = win0_19.index t 0 * win0_19.size 0 + 1 * (y 0).val from rfl).trans (by rw [(off19 t).1, h0]; rfl)
  | ⟨1, _⟩ => exact (show _ = win0_19.index t 1 * win0_19.size 1 + 1 * (y 1).val from rfl).trans (by rw [(off19 t).2.1, h1, Nat.one_mul]; rfl)
  | ⟨2, _⟩ => exact (show _ = win0_19.index t 2 * win0_19.size 2 + 1 * (y 2).val from rfl).trans (by rw [(off19 t).2.2, h2, Nat.one_mul, Nat.zero_add]; rfl)

/-- The block of an array that a grid point's write-back covers, read at an index. -/
theorem read_blk19 (G : Buf (Elt Ideal) ((c : Thread nD τ).loc main_v13_1)) (t : Fin cfg0.N) (y : (win0_19.xblock (grid0.coords t)).Idx) (r : Fin 256) (k : Fin 1024)
    (h1 : (y 1).val = r.val) (h2 : (y 2).val = k.val) (h0 : (y 0).val = 0) :
    ((cfg0.win 19).blk t).view.read (Elt Ideal) G y = G (ix3 (bOf t) (row t r) k) := by
  rw [← emb_blk19 t y r k h1 h2 h0]
  rfl

/-- A block's contents, read where the write-back moves them. -/
theorem cut_blk19 (X : Vec Ideal S1x256x1024 .f32) (t : Fin cfg0.N) (y : (win0_19.xblock (grid0.coords t)).Idx) (r : Fin 256) (k : Fin 1024)
    (h1 : (y 1).val = r.val) (h2 : (y 2).val = k.val) (h0 : (y 0).val = 0) :
    (cfg0.win 19).cut (grid0.coords t) X y = X (ix3 0 r k) := by
  show X (win0_19.xinj (grid0.coords t) y) = _
  refine congrArg X (funext fun a => Fin.ext ?_)
  match a with
  | ⟨0, _⟩ => exact h0
  | ⟨1, _⟩ => exact h1
  | ⟨2, _⟩ => exact h2

theorem ix_bounds19 (t : Fin cfg0.N) (y : (win0_19.xblock (grid0.coords t)).Idx) : (y 0).val < 1 ∧ (y 1).val < 256 ∧ (y 2).val < 1024 :=
  ⟨lt_of_lt_of_eq (y 0).isLt (xs19 t 0), lt_of_lt_of_eq (y 1).isLt (xs19 t 1), lt_of_lt_of_eq (y 2).isLt (xs19 t 2)⟩

/-- A staged output block is its block of the reference's result. -/
theorem block_final19 (t : Fin cfg0.N) (r : Fin 256) (k : Fin 1024) :
    out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (X0_4 m c t) (X0_5 m c t) (X0_6 m c t) (X0_7 m c t) (iblk m c 8 t) (iblk m c 9 t) (iblk m c 10 t) (iblk m c 11 t) (iblk m c 12 t) (iblk m c 13 t) (iblk m c 14 t) (iblk m c 15 t) (iblk m c 16 t) (iblk m c 17 t) (ix3 0 r k)
      = result19 m c (ix3 (bOf t) (row t r) k) := by
  rw [out19_eq, h_apply, xRowOf_eq]
  simp only [read10, read11, read12]
  exact (Cert.MergeRefIdeal.Merge.h_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (bOf t) (row t r) k).symm

/-- What a grid point writes back is its block of the reference's result. -/
theorem flushed_eq19 (t : Fin cfg0.N) :
    (dats m 0 c).flushed 19 t = ((cfg0.win 19).blk t).view.read (Elt Ideal) (result19 m c) := by
  rw [Value.flushed19_A]
  refine funext fun y => ?_
  obtain ⟨y0, y1, y2⟩ := ix_bounds19 t y
  have hy := block_final19 m c t ⟨(y 1).val, y1⟩ ⟨(y 2).val, y2⟩
  have e1 := cut_blk19 (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (X0_4 m c t) (X0_5 m c t) (X0_6 m c t) (X0_7 m c t) (iblk m c 8 t) (iblk m c 9 t) (iblk m c 10 t) (iblk m c 11 t) (iblk m c 12 t) (iblk m c 13 t) (iblk m c 14 t) (iblk m c 15 t) (iblk m c 16 t) (iblk m c 17 t)) t y ⟨(y 1).val, y1⟩ ⟨(y 2).val, y2⟩ rfl rfl (by omega)
  have e2 := read_blk19 c (result19 m c) t y ⟨(y 1).val, y1⟩ ⟨(y 2).val, y2⟩ rfl rfl (by omega)
  exact e1.trans (hy.trans e2.symm)

/-- Every index of the result lies in the block of some grid point. -/
theorem cover19 (i : S2x16384x1024.Idx) : ∃ t : Fin cfg0.N, (cfg0.win 19).flush t = true ∧ i ∈ ((cfg0.win 19).blk t).view.set := by
  have i0 : (i 0).val < 2 := (i 0).isLt
  have i1 : (i 1).val < 16384 := (i 1).isLt
  have i2 : (i 2).val < 1024 := (i 2).isLt
  have hN : (i 0).val * 64 + (i 1).val / 256 < cfg0.N := by show _ < 128; omega
  refine ⟨⟨(i 0).val * 64 + (i 1).val / 256, hN⟩, flush0_19 _, ?_⟩
  generalize hT : (⟨(i 0).val * 64 + (i 1).val / 256, hN⟩ : Fin cfg0.N) = T
  have hv : T.val = (i 0).val * 64 + (i 1).val / 256 := by rw [← hT]
  show i ∈ ((View.whole main_v13_1).slice (win0_19.rect T)).set
  rw [View.set_slice_whole, Rect.mem_set_unit]
  intro a
  match a with
  | ⟨0, _⟩ =>
    show win0_19.index T 0 * win0_19.size 0 ≤ (i 0 : Nat) ∧ (i 0 : Nat) < win0_19.index T 0 * win0_19.size 0 + win0_19.xsize (grid0.coords T) 0
    rw [(off19 T).1, xs19 T 0]
    show _ ∧ (i 0 : Nat) < _ + 1
    omega
  | ⟨1, _⟩ =>
    show win0_19.index T 1 * win0_19.size 1 ≤ (i 1 : Nat) ∧ (i 1 : Nat) < win0_19.index T 1 * win0_19.size 1 + win0_19.xsize (grid0.coords T) 1
    rw [(off19 T).2.1, xs19 T 1]
    show _ ∧ (i 1 : Nat) < _ + 256
    omega
  | ⟨2, _⟩ =>
    show win0_19.index T 2 * win0_19.size 2 ≤ (i 2 : Nat) ∧ (i 2 : Nat) < win0_19.index T 2 * win0_19.size 2 + win0_19.xsize (grid0.coords T) 2
    rw [(off19 T).2.2, xs19 T 2]
    show _ ∧ (i 2 : Nat) < _ + 1024
    omega

/-- The second result array at the end. -/
theorem final19 : (dats m 0 c).arrAt 19 cfg0.N = result19 m c :=
  (dats m 0 c).arrAt_eq_of_cover 19 (result19 m c) (fun t _ => flushed_eq19 m c t) cover19

end Cert.MergeIdeal.Merge

end
-- ==== Proof.AttnA.Head.lean ====
/-
  One head of the window attention's body, named once: the kernel's body runs the same operations eight times, for
  query heads 0 to 7, on its column slices of the staged blocks. `headOut` is those operations on one head's slices.
-/
module

public import proofs.«01_k».proof.Proof.Gen.KernelIdeal.Skeleton

@[expose] public section

noncomputable section

namespace Cert.KernelIdeal.AttnA

open Cert.KernelIdeal Cert.KernelIdeal.Gen Idealize.ShloMosaic Idealize.ShloMosaic.TcCoe Idealize.SL.Sem

variable {F : FTy → Type} [FloatOps F] [Named F]

/-- The scores of a head against the 384 keys of its window: products of queries and keys, the named mask where the
    key is outside the window. -/
def locScores (q : FVec F S128x64 .bf16) (k : FVec F S384x64 .bf16) (ok : IVec S128x384 1) : FVec F S128x384 .f32 :=
  select ok (matmul dot_S128x64_S384x64_S128x384_1_1_0_0_n_n none q k (constant S128x384 .f32 0x00000000#32))
    (broadcast S128x384 (Named.named κ "mask" 0xF149F2CA#32))

/-- The scores of a head against the 256 context keys. -/
def ctxScores (q : FVec F S128x64 .bf16) (kc : FVec F S256x64 .bf16) : FVec F S128x256 .f32 :=
  matmul dot_S128x64_S256x64_S128x256_1_1_0_0_n_n none q kc (constant S128x256 .f32 0x00000000#32)

/-- The row maximum of both score blocks and the sink. -/
def rowMax (sl : FVec F S128x384 .f32) (sc : FVec F S128x256 .f32) (s : Elt F .f32) : FVec F S128x1 .f32 :=
  maximumf (maximumf
      (shapeCast S128x1 (multiReduction .maximumf [1] S128 sl 0xFF800000#32 reduces_S128x384_S128 (.inl rfl) rfl) shapeCasts_S128_S128x1)
      (shapeCast S128x1 (multiReduction .maximumf [1] S128 sc 0xFF800000#32 reduces_S128x256_S128 (.inl rfl) rfl) shapeCasts_S128_S128x1))
    (broadcast S128x1 s)

/-- The exponentials of the window's scores, the row maximum subtracted. -/
def locExp (sl : FVec F S128x384 .f32) (mx : FVec F S128x1 .f32) : FVec F S128x384 .f32 :=
  exp (subf sl (broadcastTo S128x384 mx broadcasts_S128x1_S128x384))

/-- The exponentials of the context's scores, the row maximum subtracted. -/
def ctxExp (sc : FVec F S128x256 .f32) (mx : FVec F S128x1 .f32) : FVec F S128x256 .f32 :=
  exp (subf sc (broadcastTo S128x256 mx broadcasts_S128x1_S128x256))

/-- The softmax denominator: both sums of exponentials and the sink's. -/
def rowDen (el : FVec F S128x384 .f32) (ec : FVec F S128x256 .f32) (s : Elt F .f32) (mx : FVec F S128x1 .f32) : FVec F S128x1 .f32 :=
  addf (addf
      (shapeCast S128x1 (multiReduction .add [1] S128 el 0x00000000#32 reduces_S128x384_S128 (.inl rfl) rfl) shapeCasts_S128_S128x1)
      (shapeCast S128x1 (multiReduction .add [1] S128 ec 0x00000000#32 reduces_S128x256_S128 (.inl rfl) rfl) shapeCasts_S128_S128x1))
    (exp (subf (broadcast S128x1 s) mx))

/-- The weighted sum of the values: window, then context. -/
def rowAcc (el : FVec F S128x384 .f32) (ec : FVec F S128x256 .f32) (v : FVec F S384x64 .bf16) (vc : FVec F S256x64 .bf16) : FVec F S128x64 .f32 :=
  addf
    (matmul dot_S128x384_S384x64_S128x64_1_0_0_1_n_n none (truncf .bf16 el bitsLt_bf16_f32) v (constant S128x64 .f32 0x00000000#32))
    (matmul dot_S128x256_S256x64_S128x64_1_0_0_1_n_n none (truncf .bf16 ec bitsLt_bf16_f32) vc (constant S128x64 .f32 0x00000000#32))

/-- What the body stores for one head, from the head's scores. -/
def headOf (sl : FVec F S128x384 .f32) (sc : FVec F S128x256 .f32) (v : FVec F S384x64 .bf16) (vc : FVec F S256x64 .bf16) (s : Elt F .f32) : FVec F S1x128x64 .bf16 :=
  shapeCast S1x128x64 (truncf .bf16
    (divf (rowAcc (locExp sl (rowMax sl sc s)) (ctxExp sc (rowMax sl sc s)) v vc)
      (broadcastTo S128x64 (rowDen (locExp sl (rowMax sl sc s)) (ctxExp sc (rowMax sl sc s)) s (rowMax sl sc s)) broadcasts_S128x1_S128x64))
    bitsLt_bf16_f32) shapeCasts_S128x64_S1x128x64

/-- What the body stores for one head, from its slices of the staged blocks. -/
def headOut (q : FVec F S128x64 .bf16) (k v : FVec F S384x64 .bf16) (kc vc : FVec F S256x64 .bf16) (ok : IVec S128x384 1) (s : Elt F .f32) : FVec F S1x128x64 .bf16 :=
  headOf (locScores q k ok) (ctxScores q kc) v vc s

end Cert.KernelIdeal.AttnA

end
-- ==== Proof.AttnA.Block.lean ====
/-
  What one grid point of the window attention leaves in its staged output block: eight stores, one per query head, each
  the head's operations (`headOut`) on its column slices of the staged blocks.
-/
module

public import proofs.«01_k».proof.Proof.AttnA.Head
public import proofs.«01_k».proof.Proof.Gen.KernelIdeal.Value
public import Idealize.ShloMosaic.Lib.Pipeline.Value
public import Idealize.ShloMosaic.Lib.Tactic

@[expose] public section

noncomputable section

namespace Cert.KernelIdeal.AttnA

open Cert.KernelIdeal Cert.KernelIdeal.Gen Idealize.ShloMosaic Idealize.ShloMosaic.TcCoe Idealize.SL.Sem
open Idealize.ShloMosaic.Pipeline (Dat)

variable {F : FTy → Type} [FloatOps F] [Named F]

/-- Which of the 384 window keys a query row of block `t1` may look at. -/
def okMask (t1 : Nat) : IVec S128x384 1 :=
  k0_pay8 (BitVec.ofNat 32 t1) (iota Kind.tc S128x384 32 [1] iota_S128x384_d1_w32) k0_pay7 0#32

theorem hz3 : (![0, 0, 0] : Fin 3 → Nat) = fun _ => 0 := funext fun a => by fin_cases a <;> rfl

/-- What the store of one head writes: `headOut` on columns `o` of the queries and `g` of keys and values. -/
def storeOf (o g : Nat) (hq : S128x512.Slices ![0, o] S128x64) (hk : S384x128.Slices ![0, g] S384x64) (hc : S256x128.Slices ![0, g] S256x64) (t1 : Nat)
    (s : Elt F .f32) (x1 : Vec F S1x128x512 .bf16) (x2 x3 x4 x5 x6 x7 : Vec F S1x128x128 .bf16) (x8 x9 : Vec F S1x256x128 .bf16) : FVec F S1x128x64 .bf16 :=
  headOut (extractStridedSlice S128x64 ![0, o] (k0_pay2 x1) hq)
    (extractStridedSlice S384x64 ![0, g] (k0_pay3 x2 x3 x4) hk) (extractStridedSlice S384x64 ![0, g] (k0_pay4 x5 x6 x7) hk)
    (extractStridedSlice S256x64 ![0, g] (k0_pay5 x8) hc) (extractStridedSlice S256x64 ![0, g] (k0_pay6 x9) hc)
    (okMask t1) s

/-- The store of head 0. -/
theorem store0 (t1 : Nat) (s : Elt F .f32) (x1 : Vec F S1x128x512 .bf16) (x2 x3 x4 x5 x6 x7 : Vec F S1x128x128 .bf16) (x8 x9 : Vec F S1x256x128 .bf16) :
    k0_pay18 (k0_pay15 (BitVec.ofNat 32 t1) (k0_pay2 x1) (k0_pay3 x2 x3 x4) (k0_pay5 x8) (iota Kind.tc S128x384 32 [1] iota_S128x384_d1_w32) k0_pay7 (0#32) s) (k0_pay16 (BitVec.ofNat 32 t1) (k0_pay2 x1) (k0_pay3 x2 x3 x4) (k0_pay4 x5 x6 x7) (k0_pay5 x8) (k0_pay6 x9) (iota Kind.tc S128x384 32 [1] iota_S128x384_d1_w32) k0_pay7 (0#32) s) (k0_pay17 (BitVec.ofNat 32 t1) (k0_pay2 x1) (k0_pay3 x2 x3 x4) (k0_pay5 x8) (iota Kind.tc S128x384 32 [1] iota_S128x384_d1_w32) k0_pay7 (0#32) s)
      = storeOf 0 0 slices_S128x512_o0_0_S128x64 slices_S384x128_o0_0_S384x64 slices_S256x128_o0_0_S256x64 t1 s x1 x2 x3 x4 x5 x6 x7 x8 x9 := rfl

/-- The store of head 1. -/
theorem store1 (t1 : Nat) (s : Elt F .f32) (x1 : Vec F S1x128x512 .bf16) (x2 x3 x4 x5 x6 x7 : Vec F S1x128x128 .bf16) (x8 x9 : Vec F S1x256x128 .bf16) :
    k0_pay27 (k0_pay25 (k0_pay2 x1) (k0_pay3 x2 x3 x4) (k0_pay4 x5 x6 x7) (k0_pay5 x8) (k0_pay6 x9) (okMask t1) s) (k0_pay26 (k0_pay2 x1) (k0_pay3 x2 x3 x4) (k0_pay5 x8) (okMask t1) s)
      = storeOf 64 0 slices_S128x512_o0_64_S128x64 slices_S384x128_o0_0_S384x64 slices_S256x128_o0_0_S256x64 t1 s x1 x2 x3 x4 x5 x6 x7 x8 x9 := rfl

/-- The store of head 2. -/
theorem store2 (t1 : Nat) (s : Elt F .f32) (x1 : Vec F S1x128x512 .bf16) (x2 x3 x4 x5 x6 x7 : Vec F S1x128x128 .bf16) (x8 x9 : Vec F S1x256x128 .bf16) :
    k0_pay29 (k0_pay28 (k0_pay2 x1) (k0_pay3 x2 x3 x4) (k0_pay4 x5 x6 x7) (k0_pay5 x8) (k0_pay6 x9) (okMask t1) s)
      = storeOf 128 0 slices_S128x512_o0_128_S128x64 slices_S384x128_o0_0_S384x64 slices_S256x128_o0_0_S256x64 t1 s x1 x2 x3 x4 x5 x6 x7 x8 x9 := rfl

/-- The store of head 3. -/
theorem store3 (t1 : Nat) (s : Elt F .f32) (x1 : Vec F S1x128x512 .bf16) (x2 x3 x4 x5 x6 x7 : Vec F S1x128x128 .bf16) (x8 x9 : Vec F S1x256x128 .bf16) :
    k0_pay31 (k0_pay30 (k0_pay2 x1) (k0_pay3 x2 x3 x4) (k0_pay4 x5 x6 x7) (k0_pay5 x8) (k0_pay6 x9) (okMask t1) s)
      = storeOf 192 0 slices_S128x512_o0_192_S128x64 slices_S384x128_o0_0_S384x64 slices_S256x128_o0_0_S256x64 t1 s x1 x2 x3 x4 x5 x6 x7 x8 x9 := rfl

/-- The store of head 4. -/
theorem store4 (t1 : Nat) (s : Elt F .f32) (x1 : Vec F S1x128x512 .bf16) (x2 x3 x4 x5 x6 x7 : Vec F S1x128x128 .bf16) (x8 x9 : Vec F S1x256x128 .bf16) :
    k0_pay32 (k0_pay2 x1) (k0_pay3 x2 x3 x4) (k0_pay4 x5 x6 x7) (k0_pay5 x8) (k0_pay6 x9) (okMask t1) s
      = storeOf 256 64 slices_S128x512_o0_256_S128x64 slices_S384x128_o0_64_S384x64 slices_S256x128_o0_64_S256x64 t1 s x1 x2 x3 x4 x5 x6 x7 x8 x9 := rfl

/-- The store of head 5. -/
theorem store5 (t1 : Nat) (s : Elt F .f32) (x1 : Vec F S1x128x512 .bf16) (x2 x3 x4 x5 x6 x7 : Vec F S1x128x128 .bf16) (x8 x9 : Vec F S1x256x128 .bf16) :
    k0_pay33 (k0_pay2 x1) (k0_pay3 x2 x3 x4) (k0_pay4 x5 x6 x7) (k0_pay5 x8) (k0_pay6 x9) (okMask t1) s
      = storeOf 320 64 slices_S128x512_o0_320_S128x64 slices_S384x128_o0_64_S384x64 slices_S256x128_o0_64_S256x64 t1 s x1 x2 x3 x4 x5 x6 x7 x8 x9 := rfl

/-- The store of head 6. -/
theorem store6 (t1 : Nat) (s : Elt F .f32) (x1 : Vec F S1x128x512 .bf16) (x2 x3 x4 x5 x6 x7 : Vec F S1x128x128 .bf16) (x8 x9 : Vec F S1x256x128 .bf16) :
    k0_pay36 (k0_pay4 x5 x6 x7) (k0_pay5 x8) (k0_pay6 x9) (okMask t1) (k0_pay34 (k0_pay2 x1)) (k0_pay35 (k0_pay3 x2 x3 x4)) (constant S128x384 .f32 0#32) s
      = storeOf 384 64 slices_S128x512_o0_384_S128x64 slices_S384x128_o0_64_S384x64 slices_S256x128_o0_64_S256x64 t1 s x1 x2 x3 x4 x5 x6 x7 x8 x9 := rfl

/-- The store of head 7. -/
theorem store7 (t1 : Nat) (s : Elt F .f32) (x1 : Vec F S1x128x512 .bf16) (x2 x3 x4 x5 x6 x7 : Vec F S1x128x128 .bf16) (x8 x9 : Vec F S1x256x128 .bf16) :
    k0_pay1 (k0_pay4 x5 x6 x7) (k0_pay5 x8) (k0_pay6 x9) (okMask t1) (k0_pay37 (k0_pay2 x1)) (k0_pay38 (k0_pay2 x1) (k0_pay3 x2 x3 x4)) k0_pay39 s
      = storeOf 448 64 slices_S128x512_o0_448_S128x64 slices_S384x128_o0_64_S384x64 slices_S256x128_o0_64_S256x64 t1 s x1 x2 x3 x4 x5 x6 x7 x8 x9 := rfl

/-- The staged output block after the body, as the eight stores, last first. -/
theorem out_pieces (c : Dev nD) (i : grid0.Coords) (arg2 : Memref sig .tc .smem S8 .f32) (harg2 : arg2.IsWhole) (arg3 : Memref sig .tc .vmem S1x128x512 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x128x128 .bf16) (harg9 : arg9.IsWhole) (arg10 : Memref sig .tc .vmem S1x256x128 .bf16) (harg10 : arg10.IsWhole) (arg11 : Memref sig .tc .vmem S1x256x128 .bf16) (harg11 : arg11.IsWhole) (arg12 : Memref sig .tc .vmem S1x128x512 .bf16) (harg12 : arg12.IsWhole)
    (x0 : Vec F S8 .f32) (x1 : Vec F S1x128x512 .bf16) (x2 : Vec F S1x128x128 .bf16) (x3 : Vec F S1x128x128 .bf16) (x4 : Vec F S1x128x128 .bf16) (x5 : Vec F S1x128x128 .bf16) (x6 : Vec F S1x128x128 .bf16) (x7 : Vec F S1x128x128 .bf16) (x8 : Vec F S1x256x128 .bf16) (x9 : Vec F S1x256x128 .bf16) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9 = View.canon [
      ⟨Rect.unit ![0, 0, 448] ![1, 128, 64] inb_S1x128x512_S1x128x64_0_0_448, storeOf 448 64 slices_S128x512_o0_448_S128x64 slices_S384x128_o0_64_S384x64 slices_S256x128_o0_64_S256x64 (i 1).val (View.ld x0 (Rect.unit ![7] ![1] inb_S8_S1_7) (Shape.Idx.first (by decide))) x1 x2 x3 x4 x5 x6 x7 x8 x9⟩,
      ⟨Rect.unit ![0, 0, 384] ![1, 128, 64] inb_S1x128x512_S1x128x64_0_0_384, storeOf 384 64 slices_S128x512_o0_384_S128x64 slices_S384x128_o0_64_S384x64 slices_S256x128_o0_64_S256x64 (i 1).val (View.ld x0 (Rect.unit ![6] ![1] inb_S8_S1_6) (Shape.Idx.first (by decide))) x1 x2 x3 x4 x5 x6 x7 x8 x9⟩,
      ⟨Rect.unit ![0, 0, 320] ![1, 128, 64] inb_S1x128x512_S1x128x64_0_0_320, storeOf 320 64 slices_S128x512_o0_320_S128x64 slices_S384x128_o0_64_S384x64 slices_S256x128_o0_64_S256x64 (i 1).val (View.ld x0 (Rect.unit ![5] ![1] inb_S8_S1_5) (Shape.Idx.first (by decide))) x1 x2 x3 x4 x5 x6 x7 x8 x9⟩,
      ⟨Rect.unit ![0, 0, 256] ![1, 128, 64] inb_S1x128x512_S1x128x64_0_0_256, storeOf 256 64 slices_S128x512_o0_256_S128x64 slices_S384x128_o0_64_S384x64 slices_S256x128_o0_64_S256x64 (i 1).val (View.ld x0 (Rect.unit ![4] ![1] inb_S8_S1_4) (Shape.Idx.first (by decide))) x1 x2 x3 x4 x5 x6 x7 x8 x9⟩,
      ⟨Rect.unit ![0, 0, 192] ![1, 128, 64] inb_S1x128x512_S1x128x64_0_0_192, storeOf 192 0 slices_S128x512_o0_192_S128x64 slices_S384x128_o0_0_S384x64 slices_S256x128_o0_0_S256x64 (i 1).val (View.ld x0 (Rect.unit ![3] ![1] inb_S8_S1_3) (Shape.Idx.first (by decide))) x1 x2 x3 x4 x5 x6 x7 x8 x9⟩,
      ⟨Rect.unit ![0, 0, 128] ![1, 128, 64] inb_S1x128x512_S1x128x64_0_0_128, storeOf 128 0 slices_S128x512_o0_128_S128x64 slices_S384x128_o0_0_S384x64 slices_S256x128_o0_0_S256x64 (i 1).val (View.ld x0 (Rect.unit ![2] ![1] inb_S8_S1_2) (Shape.Idx.first (by decide))) x1 x2 x3 x4 x5 x6 x7 x8 x9⟩,
      ⟨Rect.unit ![0, 0, 64] ![1, 128, 64] inb_S1x128x512_S1x128x64_0_0_64, storeOf 64 0 slices_S128x512_o0_64_S128x64 slices_S384x128_o0_0_S384x64 slices_S256x128_o0_0_S256x64 (i 1).val (View.ld x0 (Rect.unit ![1] ![1] inb_S8_S1_1) (Shape.Idx.first (by decide))) x1 x2 x3 x4 x5 x6 x7 x8 x9⟩,
      ⟨Rect.unit ![0, 0, 0] ![1, 128, 64] inb_S1x128x512_S1x128x64_0_0_0, storeOf 0 0 slices_S128x512_o0_0_S128x64 slices_S384x128_o0_0_S384x64 slices_S256x128_o0_0_S256x64 (i 1).val (View.ld x0 (Rect.unit ![0] ![1] inb_S8_S1_0) (Shape.Idx.first (by decide))) x1 x2 x3 x4 x5 x6 x7 x8 x9⟩] := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread,
    View.ld_unit_zero (S := S1x128x512) hz3, View.ld_unit_zero (S := S1x128x128) hz3, View.ld_unit_zero (S := S1x256x128) hz3]
  rw [← store0 (i 1).val _ x1 x2 x3 x4 x5 x6 x7 x8 x9, ← store1 (i 1).val _ x1 x2 x3 x4 x5 x6 x7 x8 x9, ← store2 (i 1).val _ x1 x2 x3 x4 x5 x6 x7 x8 x9, ← store3 (i 1).val _ x1 x2 x3 x4 x5 x6 x7 x8 x9, ← store4 (i 1).val _ x1 x2 x3 x4 x5 x6 x7 x8 x9, ← store5 (i 1).val _ x1 x2 x3 x4 x5 x6 x7 x8 x9, ← store6 (i 1).val _ x1 x2 x3 x4 x5 x6 x7 x8 x9, ← store7 (i 1).val _ x1 x2 x3 x4 x5 x6 x7 x8 x9]
  unfold okMask
  rfl

end Cert.KernelIdeal.AttnA

end
-- ==== Proof.AttnA.Row.lean ====
/-
  The window attention's body read at an index, over the extended reals: what one head stores at row `r`, column `d`.
-/
module

public import proofs.«01_k».proof.Proof.AttnA.Block
public import Idealize.ShloMosaic.Lib.Pointwise

@[expose] public section

noncomputable section

namespace Cert.KernelIdeal.AttnA

open Cert.KernelIdeal Cert.KernelIdeal.Gen Idealize.ShloMosaic Idealize.ShloMosaic.TcCoe Idealize.SL.Sem

/-- Softmax attention of one row as the body computes it: the window's scores `sl` with values `v`, the context's
    scores `sc` with values `vc`, and the sink logit `s`; the division after the weighted sum. -/
def kRow (sl : Fin 384 → EReal) (sc : Fin 256 → EReal) (s : EReal) (v : Fin 384 → EReal) (vc : Fin 256 → EReal) : EReal :=
  let m := max (max (Finset.fold max ⊥ sl Finset.univ) (Finset.fold max ⊥ sc Finset.univ)) s
  Ideal.div (∑ x, Ideal.exp (sl x - m) * v x + ∑ x, Ideal.exp (sc x - m) * vc x)
    (∑ x, Ideal.exp (sl x - m) + ∑ x, Ideal.exp (sc x - m) + Ideal.exp (s - m))

theorem negInf : Ideal.ofBits FTy.f32 4286578688#32 = (⊥ : EReal) := by
  simp [Ideal.ofBits, Ideal.ieee]

theorem mask_eq : Named.named (F := Ideal) κ "mask" (φ := .f32) 4048155338#32 = (⊥ : EReal) :=
  IdealRules.named_const.ideal_named_scalar _ _ _ _ rfl

theorem headOf_apply (sl : FVec Ideal S128x384 .f32) (sc : FVec Ideal S128x256 .f32) (v : FVec Ideal S384x64 .bf16) (vc : FVec Ideal S256x64 .bf16)
    (s : Elt Ideal .f32) (r : Fin 128) (d : Fin 64) :
    headOf sl sc v vc s (ix3 0 r d)
      = kRow (fun j => sl (ix2 r j)) (fun j => sc (ix2 r j)) s (fun j => v (ix2 j d)) (fun j => vc (ix2 j d)) := by
  pointwise [headOf, rowAcc, rowDen, locExp, ctxExp, rowMax]
  rw [negInf]
  rfl

/-- The previous, own and next block of 128 rows, read as one block of 384. -/
def win (a b c : Vec Ideal S1x128x128 .bf16) (j : Fin 384) (col : Fin 128) : EReal :=
  if h : j.val < 128 then a (ix3 0 ⟨j.val, h⟩ col)
  else if h : j.val - 128 < 128 then b (ix3 0 ⟨j.val - 128, h⟩ col)
  else c (ix3 0 ⟨j.val - 128 - 128, by omega⟩ col)

theorem pay3_apply (a b c : Vec Ideal S1x128x128 .bf16) (j : Fin 384) (col : Fin 128) : k0_pay3 a b c (ix2 j col) = win a b c j col := by
  pointwise [k0_pay3, win]

theorem pay4_apply (a b c : Vec Ideal S1x128x128 .bf16) (j : Fin 384) (col : Fin 128) : k0_pay4 a b c (ix2 j col) = win a b c j col := by
  pointwise [k0_pay4, win]

theorem storeOf_apply (o g : Nat) (hq : S128x512.Slices ![0, o] S128x64) (hk : S384x128.Slices ![0, g] S384x64) (hc : S256x128.Slices ![0, g] S256x64) (t1 : Nat)
    (ho : o + 64 ≤ 512) (hg : g + 64 ≤ 128)
    (s : Elt Ideal .f32) (x1 : Vec Ideal S1x128x512 .bf16) (x2 x3 x4 x5 x6 x7 : Vec Ideal S1x128x128 .bf16) (x8 x9 : Vec Ideal S1x256x128 .bf16)
    (r : Fin 128) (d : Fin 64) :
    storeOf o g hq hk hc t1 s x1 x2 x3 x4 x5 x6 x7 x8 x9 (ix3 0 r d)
      = kRow (fun j => Scalar.select (okMask t1 (ix2 r j)) (∑ e : Fin 64, x1 (ix3 0 r ⟨o + e.val, by omega⟩) * win x2 x3 x4 j ⟨g + e.val, by omega⟩) ⊥)
          (fun j => ∑ e : Fin 64, x1 (ix3 0 r ⟨o + e.val, by omega⟩) * x8 (ix3 0 j ⟨g + e.val, by omega⟩)) s
          (fun j => win x5 x6 x7 j ⟨g + d.val, by omega⟩) (fun j => x9 (ix3 0 j ⟨g + d.val, by omega⟩)) := by
  unfold storeOf headOut
  rw [headOf_apply]
  congr 1
  · funext j
    generalize okMask t1 = k
    pointwise [locScores, k0_pay2]
    rw [mask_eq]
    simp only [pay3_apply]
  · funext j
    pointwise [ctxScores, k0_pay2, k0_pay5]
  · funext j
    pointwise []
    simp only [pay4_apply]
  · funext j
    pointwise [k0_pay6]

end Cert.KernelIdeal.AttnA

end
-- ==== Proof.AttnA.Out.lean ====
module

public import proofs.«01_k».proof.Proof.AttnA.Row
public import Idealize.ShloMosaic.Lib.Pipeline.ValueKit

@[expose] public section

noncomputable section

namespace Cert.KernelIdeal.AttnA

open Cert.KernelIdeal Cert.KernelIdeal.Gen Idealize.ShloMosaic

/-- A staged block whose last store covers the columns from `o`, read inside that store. -/
theorem canon_hit (o : Nat) (inb : ∀ a : Fin S1x128x512.rank, (![0, 0, o] : Fin 3 → Nat) a + (![1, 128, 64] : Fin 3 → Nat) a ≤ S1x128x512.size a) (w : FVec Ideal S1x128x64 .bf16)
    (L : List (View.Piece (Elt Ideal) S1x128x512 .bf16)) (r : Fin 128) (d : Fin 64) (c : Fin 512) (hc : c.val = o + d.val) :
    View.canon (⟨Rect.unit ![0, 0, o] ![1, 128, 64] inb, w⟩ :: L) (ix3 0 r c) = w (ix3 0 r d) := by
  have h : (ix3 0 r c : S1x128x512.Idx) = (Rect.unit (s := S1x128x512) ![0, 0, o] ![1, 128, 64] inb).emb (ix3 0 r d) := by
    funext a
    apply Fin.ext
    fin_cases a <;> simp [Rect.emb, Rect.unit, ix3, hc]
  rw [h]
  exact View.canon_cons_emb _ _ _ _

/-- The same block read outside the last store. -/
theorem canon_miss (o : Nat) (inb : ∀ a : Fin S1x128x512.rank, (![0, 0, o] : Fin 3 → Nat) a + (![1, 128, 64] : Fin 3 → Nat) a ≤ S1x128x512.size a) (w : FVec Ideal S1x128x64 .bf16)
    (L : List (View.Piece (Elt Ideal) S1x128x512 .bf16)) (r : Fin 128) (c : Fin 512) (hc : c.val < o ∨ o + 64 ≤ c.val) :
    View.canon (⟨Rect.unit ![0, 0, o] ![1, 128, 64] inb, w⟩ :: L) (ix3 0 r c) = View.canon L (ix3 0 r c) := by
  apply View.canon_cons_of_not_mem
  show _ ∉ (Rect.unit (s := S1x128x512) ![0, 0, o] ![1, 128, 64] inb).set
  rw [Rect.mem_set_unit]
  intro h
  have h2 := h 2
  change o ≤ c.val ∧ c.val < o + 64 at h2
  omega

/-- The word the body reads for head `h`. -/
theorem sink_ld (x0 : Vec Ideal S8 .f32) (h : Fin 8) (inb : ∀ a : Fin S8.rank, (![h.val] : Fin 1 → Nat) a + (![1] : Fin 1 → Nat) a ≤ S8.size a) (hp) :
    View.ld x0 (Rect.unit ![h.val] ![1] inb) (Shape.Idx.first hp) = x0 (ix1 h) := by
  apply View.ld_unit_apply_of
  intro a
  fin_cases a
  rfl

/-- The index of feature `e` of head `h` in a row of 512. -/
def hcol (h : Fin 8) (e : Fin 64) : Fin 512 := ⟨64 * h.val + e.val, by omega⟩

/-- The index of feature `e` of the key head that head `h` reads, in a row of 128. -/
def gcol (h : Fin 8) (e : Fin 64) : Fin 128 := ⟨64 * (h.val / 4) + e.val, by omega⟩

/-- The store of head `h` at its row `r` and feature `d`. -/
theorem store_at (h : Fin 8) (o g : Nat) (hq : S128x512.Slices ![0, o] S128x64) (hk : S384x128.Slices ![0, g] S384x64) (hc : S256x128.Slices ![0, g] S256x64) (t1 : Nat)
    (ho : o = 64 * h.val) (hg : g = 64 * (h.val / 4))
    (s : Elt Ideal .f32) (x1 : Vec Ideal S1x128x512 .bf16) (x2 x3 x4 x5 x6 x7 : Vec Ideal S1x128x128 .bf16) (x8 x9 : Vec Ideal S1x256x128 .bf16)
    (r : Fin 128) (d : Fin 64) :
    storeOf o g hq hk hc t1 s x1 x2 x3 x4 x5 x6 x7 x8 x9 (ix3 0 r d)
      = kRow (fun j => Scalar.select (okMask t1 (ix2 r j)) (∑ e : Fin 64, x1 (ix3 0 r (hcol h e)) * win x2 x3 x4 j (gcol h e)) ⊥)
          (fun j => ∑ e : Fin 64, x1 (ix3 0 r (hcol h e)) * x8 (ix3 0 j (gcol h e))) s
          (fun j => win x5 x6 x7 j (gcol h d)) (fun j => x9 (ix3 0 j (gcol h d))) := by
  subst ho hg
  exact storeOf_apply _ _ hq hk hc t1 (by omega) (by omega) s x1 x2 x3 x4 x5 x6 x7 x8 x9 r d

/-- The staged output block, one row of one head: softmax attention of the head's query row over the window and the context. -/
theorem out_apply (c : Dev nD) (i : grid0.Coords) (arg2 : Memref sig .tc .smem S8 .f32) (harg2 : arg2.IsWhole) (arg3 : Memref sig .tc .vmem S1x128x512 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x128x128 .bf16) (harg9 : arg9.IsWhole) (arg10 : Memref sig .tc .vmem S1x256x128 .bf16) (harg10 : arg10.IsWhole) (arg11 : Memref sig .tc .vmem S1x256x128 .bf16) (harg11 : arg11.IsWhole) (arg12 : Memref sig .tc .vmem S1x128x512 .bf16) (harg12 : arg12.IsWhole)
    (x0 : Vec Ideal S8 .f32) (x1 : Vec Ideal S1x128x512 .bf16) (x2 : Vec Ideal S1x128x128 .bf16) (x3 : Vec Ideal S1x128x128 .bf16) (x4 : Vec Ideal S1x128x128 .bf16) (x5 : Vec Ideal S1x128x128 .bf16) (x6 : Vec Ideal S1x128x128 .bf16) (x7 : Vec Ideal S1x128x128 .bf16) (x8 : Vec Ideal S1x256x128 .bf16) (x9 : Vec Ideal S1x256x128 .bf16)     (r : Fin 128) (h : Fin 8) (d : Fin 64) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9 (ix3 0 r (hcol h d))
      = kRow (fun j => Scalar.select (okMask (i 1).val (ix2 r j)) (∑ e : Fin 64, x1 (ix3 0 r (hcol h e)) * win x2 x3 x4 j (gcol h e)) ⊥)
          (fun j => ∑ e : Fin 64, x1 (ix3 0 r (hcol h e)) * x8 (ix3 0 j (gcol h e))) (x0 (ix1 h))
          (fun j => win x5 x6 x7 j (gcol h d)) (fun j => x9 (ix3 0 j (gcol h d))) := by
  rw [out_pieces]
  obtain ⟨n, hn⟩ := h
  interval_cases n
  · have hv : (hcol ⟨0, hn⟩ d).val = 0 + d.val := rfl
    rw [canon_miss 448 _ _ _ r _ (by show (hcol ⟨0, hn⟩ d).val < _ ∨ _ ≤ (hcol ⟨0, hn⟩ d).val; omega)]
    rw [canon_miss 384 _ _ _ r _ (by show (hcol ⟨0, hn⟩ d).val < _ ∨ _ ≤ (hcol ⟨0, hn⟩ d).val; omega)]
    rw [canon_miss 320 _ _ _ r _ (by show (hcol ⟨0, hn⟩ d).val < _ ∨ _ ≤ (hcol ⟨0, hn⟩ d).val; omega)]
    rw [canon_miss 256 _ _ _ r _ (by show (hcol ⟨0, hn⟩ d).val < _ ∨ _ ≤ (hcol ⟨0, hn⟩ d).val; omega)]
    rw [canon_miss 192 _ _ _ r _ (by show (hcol ⟨0, hn⟩ d).val < _ ∨ _ ≤ (hcol ⟨0, hn⟩ d).val; omega)]
    rw [canon_miss 128 _ _ _ r _ (by show (hcol ⟨0, hn⟩ d).val < _ ∨ _ ≤ (hcol ⟨0, hn⟩ d).val; omega)]
    rw [canon_miss 64 _ _ _ r _ (by show (hcol ⟨0, hn⟩ d).val < _ ∨ _ ≤ (hcol ⟨0, hn⟩ d).val; omega)]
    rw [canon_hit 0 _ _ _ r d _ hv, store_at ⟨0, hn⟩ 0 0 _ _ _ _ (by norm_num) (by norm_num), sink_ld x0 ⟨0, hn⟩]
  · have hv : (hcol ⟨1, hn⟩ d).val = 64 + d.val := rfl
    rw [canon_miss 448 _ _ _ r _ (by show (hcol ⟨1, hn⟩ d).val < _ ∨ _ ≤ (hcol ⟨1, hn⟩ d).val; omega)]
    rw [canon_miss 384 _ _ _ r _ (by show (hcol ⟨1, hn⟩ d).val < _ ∨ _ ≤ (hcol ⟨1, hn⟩ d).val; omega)]
    rw [canon_miss 320 _ _ _ r _ (by show (hcol ⟨1, hn⟩ d).val < _ ∨ _ ≤ (hcol ⟨1, hn⟩ d).val; omega)]
    rw [canon_miss 256 _ _ _ r _ (by show (hcol ⟨1, hn⟩ d).val < _ ∨ _ ≤ (hcol ⟨1, hn⟩ d).val; omega)]
    rw [canon_miss 192 _ _ _ r _ (by show (hcol ⟨1, hn⟩ d).val < _ ∨ _ ≤ (hcol ⟨1, hn⟩ d).val; omega)]
    rw [canon_miss 128 _ _ _ r _ (by show (hcol ⟨1, hn⟩ d).val < _ ∨ _ ≤ (hcol ⟨1, hn⟩ d).val; omega)]
    rw [canon_hit 64 _ _ _ r d _ hv, store_at ⟨1, hn⟩ 64 0 _ _ _ _ (by norm_num) (by norm_num), sink_ld x0 ⟨1, hn⟩]
  · have hv : (hcol ⟨2, hn⟩ d).val = 128 + d.val := rfl
    rw [canon_miss 448 _ _ _ r _ (by show (hcol ⟨2, hn⟩ d).val < _ ∨ _ ≤ (hcol ⟨2, hn⟩ d).val; omega)]
    rw [canon_miss 384 _ _ _ r _ (by show (hcol ⟨2, hn⟩ d).val < _ ∨ _ ≤ (hcol ⟨2, hn⟩ d).val; omega)]
    rw [canon_miss 320 _ _ _ r _ (by show (hcol ⟨2, hn⟩ d).val < _ ∨ _ ≤ (hcol ⟨2, hn⟩ d).val; omega)]
    rw [canon_miss 256 _ _ _ r _ (by show (hcol ⟨2, hn⟩ d).val < _ ∨ _ ≤ (hcol ⟨2, hn⟩ d).val; omega)]
    rw [canon_miss 192 _ _ _ r _ (by show (hcol ⟨2, hn⟩ d).val < _ ∨ _ ≤ (hcol ⟨2, hn⟩ d).val; omega)]
    rw [canon_hit 128 _ _ _ r d _ hv, store_at ⟨2, hn⟩ 128 0 _ _ _ _ (by norm_num) (by norm_num), sink_ld x0 ⟨2, hn⟩]
  · have hv : (hcol ⟨3, hn⟩ d).val = 192 + d.val := rfl
    rw [canon_miss 448 _ _ _ r _ (by show (hcol ⟨3, hn⟩ d).val < _ ∨ _ ≤ (hcol ⟨3, hn⟩ d).val; omega)]
    rw [canon_miss 384 _ _ _ r _ (by show (hcol ⟨3, hn⟩ d).val < _ ∨ _ ≤ (hcol ⟨3, hn⟩ d).val; omega)]
    rw [canon_miss 320 _ _ _ r _ (by show (hcol ⟨3, hn⟩ d).val < _ ∨ _ ≤ (hcol ⟨3, hn⟩ d).val; omega)]
    rw [canon_miss 256 _ _ _ r _ (by show (hcol ⟨3, hn⟩ d).val < _ ∨ _ ≤ (hcol ⟨3, hn⟩ d).val; omega)]
    rw [canon_hit 192 _ _ _ r d _ hv, store_at ⟨3, hn⟩ 192 0 _ _ _ _ (by norm_num) (by norm_num), sink_ld x0 ⟨3, hn⟩]
  · have hv : (hcol ⟨4, hn⟩ d).val = 256 + d.val := rfl
    rw [canon_miss 448 _ _ _ r _ (by show (hcol ⟨4, hn⟩ d).val < _ ∨ _ ≤ (hcol ⟨4, hn⟩ d).val; omega)]
    rw [canon_miss 384 _ _ _ r _ (by show (hcol ⟨4, hn⟩ d).val < _ ∨ _ ≤ (hcol ⟨4, hn⟩ d).val; omega)]
    rw [canon_miss 320 _ _ _ r _ (by show (hcol ⟨4, hn⟩ d).val < _ ∨ _ ≤ (hcol ⟨4, hn⟩ d).val; omega)]
    rw [canon_hit 256 _ _ _ r d _ hv, store_at ⟨4, hn⟩ 256 64 _ _ _ _ (by norm_num) (by norm_num), sink_ld x0 ⟨4, hn⟩]
  · have hv : (hcol ⟨5, hn⟩ d).val = 320 + d.val := rfl
    rw [canon_miss 448 _ _ _ r _ (by show (hcol ⟨5, hn⟩ d).val < _ ∨ _ ≤ (hcol ⟨5, hn⟩ d).val; omega)]
    rw [canon_miss 384 _ _ _ r _ (by show (hcol ⟨5, hn⟩ d).val < _ ∨ _ ≤ (hcol ⟨5, hn⟩ d).val; omega)]
    rw [canon_hit 320 _ _ _ r d _ hv, store_at ⟨5, hn⟩ 320 64 _ _ _ _ (by norm_num) (by norm_num), sink_ld x0 ⟨5, hn⟩]
  · have hv : (hcol ⟨6, hn⟩ d).val = 384 + d.val := rfl
    rw [canon_miss 448 _ _ _ r _ (by show (hcol ⟨6, hn⟩ d).val < _ ∨ _ ≤ (hcol ⟨6, hn⟩ d).val; omega)]
    rw [canon_hit 384 _ _ _ r d _ hv, store_at ⟨6, hn⟩ 384 64 _ _ _ _ (by norm_num) (by norm_num), sink_ld x0 ⟨6, hn⟩]
  · have hv : (hcol ⟨7, hn⟩ d).val = 448 + d.val := rfl
    rw [canon_hit 448 _ _ _ r d _ hv, store_at ⟨7, hn⟩ 448 64 _ _ _ _ (by norm_num) (by norm_num), sink_ld x0 ⟨7, hn⟩]

end Cert.KernelIdeal.AttnA

end
-- ==== Proof.AttnA.Reads.lean ====
module

public import proofs.«01_k».proof.Proof.AttnA.Out
public import proofs.«01_k».proof.Proof.Gen.KernelIdeal.Value
public import Idealize.ShloMosaic.Lib.Pipeline.ValueKit.Point
public import Idealize.ShloMosaic.Lib.KernelVsHost

@[expose] public section

noncomputable section

namespace Cert.KernelIdeal.AttnA

open Cert.KernelIdeal Cert.KernelIdeal.Gen Idealize.ShloMosaic Idealize.ShloMosaic.TcCoe

/-- Which block of each array a grid point reads and writes. -/
theorem idx : ∀ t : Fin cfg0.N,
    (grid0.coords t 0).val = t.val / 128 ∧ (grid0.coords t 1).val = t.val % 128
    ∧ win0_0.index t = ![0]
    ∧ win0_1.index t = ![t.val / 128, t.val % 128, 0]
    ∧ win0_2.index t = ![t.val / 128, t.val % 128 - 1, 0]
    ∧ win0_3.index t = ![t.val / 128, t.val % 128, 0]
    ∧ win0_4.index t = ![t.val / 128, min (t.val % 128 + 1) 127, 0]
    ∧ win0_5.index t = ![t.val / 128, t.val % 128 - 1, 65]
    ∧ win0_6.index t = ![t.val / 128, t.val % 128, 65]
    ∧ win0_7.index t = ![t.val / 128, min (t.val % 128 + 1) 127, 65]
    ∧ win0_8.index t = ![t.val / 128, 0, 0]
    ∧ win0_9.index t = ![t.val / 128, 0, 65]
    ∧ win0_10.index t = ![t.val / 128, t.val % 128, 0] := by
  decide +kernel

variable (m : (ℓ : Loc nD τ sig) → Buf (Elt Ideal) ℓ) (c : Dev nD)

/-- The batch entry of a grid point. -/
def bOf (t : Fin cfg0.N) : Fin 2 := ⟨t.val / 128, by have h : t.val < 256 := t.isLt; omega⟩

/-- The block of 128 rows of a grid point. -/
def nOf (t : Fin cfg0.N) : Fin 128 := ⟨t.val % 128, by omega⟩

/-- Row `r` of block `n`, in an array of 16384 rows. -/
def row (n : Fin 128) (r : Fin 128) : Fin 16384 := ⟨n.val * 128 + r.val, by omega⟩

/-- The block before, or the block itself at the start of the array. -/
def prv (n : Fin 128) : Fin 128 := ⟨n.val - 1, by omega⟩

/-- The block after, or the block itself at the end of the array. -/
def nxt (n : Fin 128) : Fin 128 := ⟨min (n.val + 1) 127, by omega⟩

/-- The key head that head `h` reads. -/
def kvh (h : Fin 8) : Fin 2 := ⟨h.val / 4, by omega⟩

/-- The queries as given, read at an index. -/
def qAt (b : Fin 2) (s : Fin 16384) (h : Fin 8) (e : Fin 64) : EReal := m ((c : Thread nD τ).loc main_arg0) (ix4 b s h e)

/-- The keys as given. -/
def kAt (b : Fin 2) (s : Fin 16384) (g : Fin 2) (e : Fin 64) : EReal := m ((c : Thread nD τ).loc main_arg1) (ix4 b s g e)

/-- The values as given. -/
def vAt (b : Fin 2) (s : Fin 16384) (g : Fin 2) (e : Fin 64) : EReal := m ((c : Thread nD τ).loc main_arg2) (ix4 b s g e)

/-- The context's keys as given. -/
def kcAt (b : Fin 2) (s : Fin 256) (g : Fin 2) (e : Fin 64) : EReal := m ((c : Thread nD τ).loc main_arg3) (ix4 b s g e)

/-- The context's values as given. -/
def vcAt (b : Fin 2) (s : Fin 256) (g : Fin 2) (e : Fin 64) : EReal := m ((c : Thread nD τ).loc main_arg4) (ix4 b s g e)

/-- The sink logits as given. -/
def sinkAt (h : Fin 8) : EReal := m ((c : Thread nD τ).loc main_arg5) (ix1 h)

theorem read0 (t : Fin cfg0.N) (h : Fin 8) : iblk m c 0 t (ix1 h) = sinkAt m c h := by
  unfold sinkAt
  blk_simp [iblk, idx t]
  entry_read
  pointwise
  blk_ext [idx t]

theorem read1 (t : Fin cfg0.N) (r : Fin 128) (h : Fin 8) (e : Fin 64) :
    iblk m c 1 t (ix3 0 r (hcol h e)) = qAt m c (bOf t) (row (nOf t) r) h e * Ideal.ofBits FTy.f32 1040187392#32 := by
  unfold qAt
  blk_simp [iblk, idx t]
  entry_read
  pointwise
  congr 1
  blk_ext [idx t, hcol, bOf, nOf, row]

theorem read2 (t : Fin cfg0.N) (r : Fin 128) (h : Fin 8) (e : Fin 64) :
    iblk m c 2 t (ix3 0 r (gcol h e)) = kAt m c (bOf t) (row (prv (nOf t)) r) (kvh h) e := by
  unfold kAt
  blk_simp [iblk, idx t]
  entry_read
  pointwise
  blk_ext [idx t, gcol, bOf, nOf, row, prv, kvh]

theorem read3 (t : Fin cfg0.N) (r : Fin 128) (h : Fin 8) (e : Fin 64) :
    iblk m c 3 t (ix3 0 r (gcol h e)) = kAt m c (bOf t) (row (nOf t) r) (kvh h) e := by
  unfold kAt
  blk_simp [iblk, idx t]
  entry_read
  pointwise
  blk_ext [idx t, gcol, bOf, nOf, row, prv, kvh]

theorem read4 (t : Fin cfg0.N) (r : Fin 128) (h : Fin 8) (e : Fin 64) :
    iblk m c 4 t (ix3 0 r (gcol h e)) = kAt m c (bOf t) (row (nxt (nOf t)) r) (kvh h) e := by
  unfold kAt
  blk_simp [iblk, idx t]
  entry_read
  pointwise
  blk_ext [idx t, gcol, bOf, nOf, row, nxt, kvh]

theorem read8 (t : Fin cfg0.N) (r : Fin 256) (h : Fin 8) (e : Fin 64) :
    iblk m c 8 t (ix3 0 r (gcol h e)) = kcAt m c (bOf t) r (kvh h) e := by
  unfold kcAt
  blk_simp [iblk, idx t]
  entry_read
  pointwise
  blk_ext [idx t, gcol, bOf, nOf, row, nxt, kvh]

/-- Column `x` of the 128 value columns, in a row of the whole projection. -/
def vcol (x : Fin 128) : Fin 8704 := ⟨8320 + x.val, by omega⟩

/-- The values placed into the projection's columns, read there. -/
theorem padV_apply (v : FVec Ideal S2x16384x128 .bf16) (z : FVec Ideal S_ .bf16) (h1 h2) (b : Fin 2) (s : Fin 16384) (x : Fin 128) :
    pad S2x16384x8704 ![0, 0, 8320] ![0, 0, 256] ![0, 0, 0] v z h1 h2 (ix3 b s (vcol x)) = v (ix3 b s x) := by
  apply pad_apply_of_inside
  intro a
  fin_cases a
  · show b.val = 0 + b.val * (0 + 1)
    omega
  · show s.val = 0 + s.val * (0 + 1)
    omega
  · show 8320 + x.val = 8320 + x.val * (0 + 1)
    omega

/-- The same for the context's values. -/
theorem padC_apply (v : FVec Ideal S2x256x128 .bf16) (z : FVec Ideal S_ .bf16) (h1 h2) (b : Fin 2) (s : Fin 256) (x : Fin 128) :
    pad S2x256x8704 ![0, 0, 8320] ![0, 0, 256] ![0, 0, 0] v z h1 h2 (ix3 b s (vcol x)) = v (ix3 b s x) := by
  apply pad_apply_of_inside
  intro a
  fin_cases a
  · show b.val = 0 + b.val * (0 + 1)
    omega
  · show s.val = 0 + s.val * (0 + 1)
    omega
  · show 8320 + x.val = 8320 + x.val * (0 + 1)
    omega

theorem read5 (t : Fin cfg0.N) (r : Fin 128) (h : Fin 8) (e : Fin 64) :
    iblk m c 5 t (ix3 0 r (gcol h e)) = vAt m c (bOf t) (row (prv (nOf t)) r) (kvh h) e := by
  unfold vAt
  have hi : ((View.whole main_v10).slice (win0_5.rect t)).emb (ix3 0 r (gcol h e)) = ix3 (bOf t) (row (prv (nOf t)) r) (vcol (gcol h e)) := by
    blk_ext [idx t, gcol, vcol, bOf, nOf, row, prv, nxt]
  blk_simp [iblk]
  entry_read
  refine (congrArg _ hi).trans ?_
  rw [padV_apply]
  pointwise
  blk_ext [gcol, kvh]

theorem read6 (t : Fin cfg0.N) (r : Fin 128) (h : Fin 8) (e : Fin 64) :
    iblk m c 6 t (ix3 0 r (gcol h e)) = vAt m c (bOf t) (row (nOf t) r) (kvh h) e := by
  unfold vAt
  have hi : ((View.whole main_v10).slice (win0_6.rect t)).emb (ix3 0 r (gcol h e)) = ix3 (bOf t) (row (nOf t) r) (vcol (gcol h e)) := by
    blk_ext [idx t, gcol, vcol, bOf, nOf, row, prv, nxt]
  blk_simp [iblk]
  entry_read
  refine (congrArg _ hi).trans ?_
  rw [padV_apply]
  pointwise
  blk_ext [gcol, kvh]

theorem read7 (t : Fin cfg0.N) (r : Fin 128) (h : Fin 8) (e : Fin 64) :
    iblk m c 7 t (ix3 0 r (gcol h e)) = vAt m c (bOf t) (row (nxt (nOf t)) r) (kvh h) e := by
  unfold vAt
  have hi : ((View.whole main_v10).slice (win0_7.rect t)).emb (ix3 0 r (gcol h e)) = ix3 (bOf t) (row (nxt (nOf t)) r) (vcol (gcol h e)) := by
    blk_ext [idx t, gcol, vcol, bOf, nOf, row, prv, nxt]
  blk_simp [iblk]
  entry_read
  refine (congrArg _ hi).trans ?_
  rw [padV_apply]
  pointwise
  blk_ext [gcol, kvh]

theorem read9 (t : Fin cfg0.N) (r : Fin 256) (h : Fin 8) (e : Fin 64) :
    iblk m c 9 t (ix3 0 r (gcol h e)) = vcAt m c (bOf t) r (kvh h) e := by
  unfold vcAt
  have hi : ((View.whole main_v13).slice (win0_9.rect t)).emb (ix3 0 r (gcol h e)) = ix3 (bOf t) r (vcol (gcol h e)) := by
    blk_ext [idx t, gcol, vcol, bOf, nOf, row, prv, nxt]
  blk_simp [iblk]
  entry_read
  refine (congrArg _ hi).trans ?_
  rw [padC_apply]
  pointwise
  blk_ext [gcol, kvh]

end Cert.KernelIdeal.AttnA

end
-- ==== Proof.AttnA.Mask.lean ====
/-
  The body's mask: which window keys a query row may look at.
-/
module

public import proofs.«01_k».proof.Proof.AttnA.Block
public import Idealize.ShloMosaic.Lib.Pointwise
public import Idealize.ShloMosaic.Lib.WordArith
public import Idealize.ShloMosaic.Lib.WordCmp

@[expose] public section

noncomputable section

namespace Cert.KernelIdeal.AttnA

open Cert.KernelIdeal Cert.KernelIdeal.Gen Idealize.ShloMosaic Idealize.ShloMosaic.WordArith Idealize.ShloMosaic.WordCmp

/-- The body's mask at row `r`, key `j` of block `n`. -/
theorem okMask_apply (n : Fin 128) (r : Fin 128) (j : Fin 384) :
    okMask n.val (ix2 r j) = BitVec.ofBool (decide (r.val ≤ j.val ∧ j.val ≤ r.val + 256 ∧ 128 ≤ n.val * 128 + j.val ∧ n.val * 128 + j.val - 128 < 16384)) := by
  pointwise [okMask, k0_pay8, k0_pay7]
  have hr := r.isLt
  have hj := j.isLt
  have hn := n.isLt
  have e1 : (BitVec.ofNat 32 n.val).toInt = n.val := toInt_ofNat_small _ (by omega)
  have e2 : (BitVec.ofNat 32 j.val).toInt = j.val := toInt_ofNat_small _ (by omega)
  have e3 : (BitVec.ofNat 32 r.val).toInt = r.val := toInt_ofNat_small _ (by omega)
  have c1 : (256#32).toInt = 256 := by decide
  have c2 : (128#32).toInt = 128 := by decide
  have c3 : (0#32).toInt = 0 := by decide
  have c4 : (127#32).toInt = 127 := by decide
  have f1 : (IntOp.subi (BitVec.ofNat 32 j.val) (BitVec.ofNat 32 r.val)).toInt = j.val - r.val := by
    rw [IntOp.subi, toInt_sub_of_bounds _ _ (by omega) (by omega), e2, e3]
  simp only [Scalar.cmpi, cmpi_sle_eq, cmpi_sge_eq, cmpi_slt_eq, cmpi_sgt_eq, f1, e1, e2, c1, c2, c3, c4, WordArith.andi_ofBool, WordArith.ori_ofBool]
  congr 1
  simp only [← Bool.decide_and, ← Bool.decide_or, decide_eq_decide]
  omega

end Cert.KernelIdeal.AttnA

end
-- ==== Proof.AttnA.RefScores.lean ====
/-
  The reference's scores, mask and window of keys and values, read down to its arguments.
-/
module

public import proofs.«01_k».proof.Proof.Gen.ReferenceIdeal.Read
public import Idealize.ShloMosaic.Lib.Pointwise
public import Idealize.ShloMosaic.Lib.WordArith
public import Idealize.ShloMosaic.Lib.WordCmp

@[expose] public section

noncomputable section

namespace Cert.ReferenceIdeal.AttnA

open Cert.ReferenceIdeal Cert.ReferenceIdeal.Gen Cert.ReferenceIdeal.Read Idealize.ShloMosaic Idealize.ShloMosaic.WordArith Idealize.ShloMosaic.WordCmp

/-- Window key `j` of query row `r` in block `n`: at most 128 positions away and inside the sequence. -/
def Valid (n r j : Nat) : Prop := r ≤ j ∧ j ≤ r + 256 ∧ 128 ≤ n * 128 + j ∧ n * 128 + j - 128 < 16384

instance (n r j : Nat) : Decidable (Valid n r j) := by unfold Valid; infer_instance

/-- Inside the sequence the window's keys are the keys. -/
theorem v6_apply (x1 : (⟨S2x16384x2x64, .f32⟩ : BufTy).Contents (Elt Ideal)) (b : Fin 2) (n : Fin 128) (j : Fin 384) (g : Fin 2) (e : Fin 64)
    (h1 : 128 ≤ n.val * 128 + j.val) (h2 : n.val * 128 + j.val - 128 < 16384) :
    val_main_v6 x1 (ix5 b n j g e) = x1 (ix4 b ⟨n.val * 128 + j.val - 128, h2⟩ g e) := by
  pointwise [val_main_v6, val_main_v3, val_main_v4, val_main_v5, val_main_v2, val_main_v1]
  have := j.isLt
  have := n.isLt
  by_cases hj : j.val < 128
  · rw [dif_pos hj, dif_pos ⟨h1, h2⟩]
  · by_cases hj2 : j.val - 128 < 128
    · rw [dif_neg hj, dif_pos hj2, dif_pos ⟨by omega, by omega⟩]
      exact congrArg (fun q => x1 (ix4 b q g e)) (Fin.ext (by simp only []; omega))
    · rw [dif_neg hj, dif_neg hj2, dif_pos ⟨by omega, by omega⟩]
      exact congrArg (fun q => x1 (ix4 b q g e)) (Fin.ext (by simp only []; omega))

/-- Inside the sequence the window's values are the values. -/
theorem v12_apply (x2 : (⟨S2x16384x2x64, .f32⟩ : BufTy).Contents (Elt Ideal)) (b : Fin 2) (n : Fin 128) (j : Fin 384) (g : Fin 2) (e : Fin 64)
    (h1 : 128 ≤ n.val * 128 + j.val) (h2 : n.val * 128 + j.val - 128 < 16384) :
    val_main_v12 x2 (ix5 b n j g e) = x2 (ix4 b ⟨n.val * 128 + j.val - 128, h2⟩ g e) := by
  pointwise [val_main_v12, val_main_v9, val_main_v10, val_main_v11, val_main_v8, val_main_v7]
  have := j.isLt
  have := n.isLt
  by_cases hj : j.val < 128
  · rw [dif_pos hj, dif_pos ⟨h1, h2⟩]
  · by_cases hj2 : j.val - 128 < 128
    · rw [dif_neg hj, dif_pos hj2, dif_pos ⟨by omega, by omega⟩]
      exact congrArg (fun q => x2 (ix4 b q g e)) (Fin.ext (by simp only []; omega))
    · rw [dif_neg hj, dif_neg hj2, dif_pos ⟨by omega, by omega⟩]
      exact congrArg (fun q => x2 (ix4 b q g e)) (Fin.ext (by simp only []; omega))

theorem absi_toInt (x : BitVec 32) (h : -2 ^ 31 < x.toInt) : (IntOp.absi x).toInt = |x.toInt| := by
  unfold IntOp.absi
  by_cases hm : x.msb = true
  · rw [if_pos hm]
    have hn : x.toInt < 0 := BitVec.toInt_neg_iff.mpr (by have := BitVec.msb_eq_decide x; rw [hm] at this; simp at this; omega)
    rw [BitVec.toInt_neg, abs_of_neg hn, Int.bmod_eq_of_le (by omega) (by omega)]
  · rw [if_neg hm]
    have hn : 0 ≤ x.toInt := by rw [BitVec.toInt_eq_msb_cond, if_neg hm]; omega
    rw [abs_of_nonneg hn]

/-- The reference's mask. -/
theorem v46_apply (n : Fin 128) (r : Fin 128) (j : Fin 384) :
    val_main_v46 (F := Ideal) (ix3 n r j) = BitVec.ofBool (decide (Valid n.val r.val j.val)) := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_c_1, val_main_c_2, val_main_c_3, val_main_c_4, val_main_c_5, val_main_c_6]
  have hr := r.isLt
  have hj := j.isLt
  have hn := n.isLt
  have e1 : (BitVec.ofNat 32 n.val).toInt = n.val := toInt_ofNat_small _ (by omega)
  have e2 : (BitVec.ofNat 32 j.val).toInt = j.val := toInt_ofNat_small _ (by omega)
  have e3 : (BitVec.ofNat 32 r.val).toInt = r.val := toInt_ofNat_small _ (by omega)
  have c1 : (1#32).toInt = 1 := by decide
  have c2 : (128#32).toInt = 128 := by decide
  have c3 : (0#32).toInt = 0 := by decide
  have c4 : (16384#32).toInt = 16384 := by decide
  have f1 : (IntOp.subi (BitVec.ofNat 32 n.val) 1#32).toInt = n.val - 1 := by
    rw [show IntOp.subi (BitVec.ofNat 32 n.val) 1#32 = BitVec.ofNat 32 n.val - 1#32 from rfl, toInt_sub_of_bounds _ _ (by omega) (by omega), e1, c1]
  have f2 : (IntOp.muli (IntOp.subi (BitVec.ofNat 32 n.val) 1#32) 128#32).toInt = (n.val - 1) * 128 := by
    rw [IntOp.muli, toInt_mul_of_bounds _ _ (by rw [f1, c2]; omega) (by rw [f1, c2]; omega), f1, c2]
  have f3 : (IntOp.addi (IntOp.muli (IntOp.subi (BitVec.ofNat 32 n.val) 1#32) 128#32) (BitVec.ofNat 32 j.val)).toInt = (n.val - 1) * 128 + j.val := by
    rw [IntOp.addi, toInt_add_of_bounds _ _ (by rw [f2, e2]; omega) (by rw [f2, e2]; omega), f2, e2]
  have f4 : (IntOp.muli (BitVec.ofNat 32 n.val) 128#32).toInt = n.val * 128 := by
    rw [IntOp.muli, toInt_mul_of_bounds _ _ (by rw [e1, c2]; omega) (by rw [e1, c2]; omega), e1, c2]
  have f5 : (IntOp.addi (IntOp.muli (BitVec.ofNat 32 n.val) 128#32) (BitVec.ofNat 32 r.val)).toInt = n.val * 128 + r.val := by
    rw [IntOp.addi, toInt_add_of_bounds _ _ (by rw [f4, e3]; omega) (by rw [f4, e3]; omega), f4, e3]
  generalize hA : IntOp.addi (IntOp.muli (IntOp.subi (BitVec.ofNat 32 n.val) 1#32) 128#32) (BitVec.ofNat 32 j.val) = A at f3 ⊢
  generalize hB : IntOp.addi (IntOp.muli (BitVec.ofNat 32 n.val) 128#32) (BitVec.ofNat 32 r.val) = B at f5 ⊢
  have f6 : (IntOp.subi A B).toInt = j.val - 128 - r.val := by
    rw [IntOp.subi, toInt_sub_of_bounds _ _ (by omega) (by omega)]; omega
  rw [cmpi_sle_eq, cmpi_sge_eq, cmpi_slt_eq, absi_toInt _ (by omega), f6, f3, c2, c3, c4, WordArith.andi_ofBool, WordArith.andi_ofBool]
  congr 1
  rw [← Bool.decide_and, ← Bool.decide_and, decide_eq_decide, abs_le]
  unfold Valid
  omega

/-- The reference's window score of a key inside the window; `-∞` outside. -/
theorem v52_apply (x0 : (⟨S2x16384x8x64, .f32⟩ : BufTy).Contents (Elt Ideal)) (x1 : (⟨S2x16384x2x64, .f32⟩ : BufTy).Contents (Elt Ideal))
    (b : Fin 2) (n : Fin 128) (g : Fin 2) (h : Fin 4) (r : Fin 128) (j : Fin 384) :
    val_main_v52 x0 x1 (ix6 b n g h r j)
      = Scalar.select (val_main_v46 (F := Ideal) (ix3 n r j))
          ((∑ e : Fin 64, val_main_v6 x1 (ix5 b n j g e) * x0 (ix4 b ⟨n.val * 128 + r.val, by omega⟩ ⟨g.val * 4 + h.val, by omega⟩ e)) * Ideal.ofBits .f32 0x3E000000#32)
          (Ideal.ofBits .f32 0xFF800000#32) := by
  have h47 : val_main_v47 x0 x1 (ix6 b n g j r h)
      = ∑ e : Fin 64, val_main_v6 x1 (ix5 b n j g e) * x0 (ix4 b ⟨n.val * 128 + r.val, by omega⟩ ⟨g.val * 4 + h.val, by omega⟩ e) := by
    rw [val_main_v47_apply]
    generalize val_main_v6 x1 = y
    pointwise [val_main_v0]
    refine Finset.sum_congr rfl fun k _ => ?_
    congr 1
    · exact congrArg y (funext fun a => Fin.ext (by match a with | ⟨0, _⟩ => rfl | ⟨1, _⟩ => rfl | ⟨2, _⟩ => rfl | ⟨3, _⟩ => rfl | ⟨4, _⟩ => rfl))
  have h48 : val_main_v48 x0 x1 (ix6 b n g h r j) = val_main_v47 x0 x1 (ix6 b n g j r h) := by
    unfold val_main_v48
    generalize val_main_v47 x0 x1 = Y
    pointwise
  rw [← h47, ← h48]
  unfold val_main_v52 val_main_v50
  generalize val_main_v48 x0 x1 = Y
  unfold val_main_call2_v1 val_main_v51
  generalize val_main_v46 (F := Ideal) = K
  pointwise [val_main_v49, val_main_cst, val_main_call2_v2, val_main_call2_v0, val_main_cst_7]
  rfl

/-- The reference's context score. -/
theorem v56_apply (x0 : (⟨S2x16384x8x64, .f32⟩ : BufTy).Contents (Elt Ideal)) (x3 : (⟨S2x256x2x64, .f32⟩ : BufTy).Contents (Elt Ideal))
    (b : Fin 2) (n : Fin 128) (g : Fin 2) (h : Fin 4) (r : Fin 128) (j : Fin 256) :
    val_main_v56 x0 x3 (ix6 b n g h r j)
      = (∑ e : Fin 64, x3 (ix4 b j g e) * x0 (ix4 b ⟨n.val * 128 + r.val, by omega⟩ ⟨g.val * 4 + h.val, by omega⟩ e)) * Ideal.ofBits .f32 0x3E000000#32 := by
  have h53 : val_main_v53 x0 x3 (ix6 b g j n r h)
      = ∑ e : Fin 64, x3 (ix4 b j g e) * x0 (ix4 b ⟨n.val * 128 + r.val, by omega⟩ ⟨g.val * 4 + h.val, by omega⟩ e) := by
    rw [val_main_v53_apply]
    pointwise [val_main_v0]
    refine Finset.sum_congr rfl fun k _ => ?_
    congr 1
    · exact congrArg x3 (funext fun a => Fin.ext (by match a with | ⟨0, _⟩ => rfl | ⟨1, _⟩ => rfl | ⟨2, _⟩ => rfl | ⟨3, _⟩ => rfl))
  have h54 : val_main_v54 x0 x3 (ix6 b n g h r j) = val_main_v53 x0 x3 (ix6 b g j n r h) := by
    unfold val_main_v54
    generalize val_main_v53 x0 x3 = Y
    pointwise
  rw [← h53, ← h54]
  unfold val_main_v56
  generalize val_main_v54 x0 x3 = Y
  pointwise [val_main_v55, val_main_cst_8]

/-- The reference's sink score. -/
theorem v58_apply (x5 : (⟨S8, .f32⟩ : BufTy).Contents (Elt Ideal)) (b : Fin 2) (n : Fin 128) (g : Fin 2) (h : Fin 4) (r : Fin 128) :
    val_main_v58 x5 (ix6 b n g h r 0) = x5 (ix1 ⟨g.val * 4 + h.val, by omega⟩) := by
  pointwise [val_main_v58, val_main_v57]

section
variable (x0 : (⟨S2x16384x8x64, .f32⟩ : BufTy).Contents (Elt Ideal)) (x1 : (⟨S2x16384x2x64, .f32⟩ : BufTy).Contents (Elt Ideal))
  (x3 : (⟨S2x256x2x64, .f32⟩ : BufTy).Contents (Elt Ideal)) (x5 : (⟨S8, .f32⟩ : BufTy).Contents (Elt Ideal))

/-- All scores of a row: window, context, sink. -/
theorem v59_apply (b : Fin 2) (n : Fin 128) (g : Fin 2) (h : Fin 4) (r : Fin 128) (j : Fin 641) :
    val_main_v59 x0 x1 x3 x5 (ix6 b n g h r j)
      = if h1 : j.val < 384 then val_main_v52 x0 x1 (ix6 b n g h r ⟨j.val, h1⟩)
        else if h2 : j.val - 384 < 256 then val_main_v56 x0 x3 (ix6 b n g h r ⟨j.val - 384, h2⟩)
        else val_main_v58 x5 (ix6 b n g h r ⟨j.val - 384 - 256, by omega⟩) := by
  unfold val_main_v59
  generalize val_main_v52 x0 x1 = A
  generalize val_main_v56 x0 x3 = B
  generalize val_main_v58 x5 = C
  pointwise

theorem v59_win (b : Fin 2) (n : Fin 128) (g : Fin 2) (h : Fin 4) (r : Fin 128) (j : Fin 384) :
    val_main_v59 x0 x1 x3 x5 (ix6 b n g h r ⟨j.val, by omega⟩) = val_main_v52 x0 x1 (ix6 b n g h r j) := by
  rw [v59_apply, dif_pos j.isLt]

theorem v59_ctx (b : Fin 2) (n : Fin 128) (g : Fin 2) (h : Fin 4) (r : Fin 128) (j : Fin 256) :
    val_main_v59 x0 x1 x3 x5 (ix6 b n g h r ⟨384 + j.val, by omega⟩) = val_main_v56 x0 x3 (ix6 b n g h r j) := by
  rw [v59_apply, dif_neg (by simp), dif_pos (by have := j.isLt; simp)]
  generalize val_main_v56 x0 x3 = B
  exact congrArg B (congrArg (ix6 b n g h r) (Fin.ext (by simp)))

theorem v59_sink (b : Fin 2) (n : Fin 128) (g : Fin 2) (h : Fin 4) (r : Fin 128) :
    val_main_v59 x0 x1 x3 x5 (ix6 b n g h r ⟨640, by omega⟩) = x5 (ix1 ⟨g.val * 4 + h.val, by omega⟩) := by
  rw [v59_apply, dif_neg (by simp), dif_neg (by simp), ← v58_apply x5 b n g h r]
  generalize val_main_v58 x5 = C
  rfl

end

end Cert.ReferenceIdeal.AttnA

end
-- ==== Proof.AttnA.RefSoftmax.lean ====
module

public import proofs.«01_k».proof.Proof.Gen.ReferenceIdeal.Read
public import Idealize.ShloMosaic.Lib.Pointwise
public import Idealize.ShloMosaic.Lib.KernelVsHost

@[expose] public section

noncomputable section

namespace Cert.ReferenceIdeal.AttnA

open Cert.ReferenceIdeal Cert.ReferenceIdeal.Gen Cert.ReferenceIdeal.Read Idealize.ShloMosaic

/-- The maximum of each row of scores. -/
def rowTop (X : FVec Ideal S2x128x2x4x128x641 .f32) : FVec Ideal S2x128x2x4x128 .f32 :=
  maximumf (broadcastInDim S2x128x2x4x128 ![] bcast_S_S2x128x2x4x128 (constant S_ .f32 0xFF800000#32))
    (Host.reduce FloatOps.maximumf X (constant S_ .f32 0xFF800000#32) reducesTo_S2x128x2x4x128x641_S2x128x2x4x128_d5 h_S_)

/-- The exponentials of a row's scores less their maximum. -/
def rowExp (X : FVec Ideal S2x128x2x4x128x641 .f32) (M : FVec Ideal S2x128x2x4x128 .f32) : FVec Ideal S2x128x2x4x128x641 .f32 :=
  Host.exp (subf X (broadcastInDim S2x128x2x4x128x641 ![0, 1, 2, 3, 4, 5] bcast_S2x128x2x4x128x1_S2x128x2x4x128x641_0_1_2_3_4_5 (broadcastInDim S2x128x2x4x128x1 ![0, 1, 2, 3, 4] bcast_S2x128x2x4x128_S2x128x2x4x128x1_0_1_2_3_4 M)))

/-- The sum of a row. -/
def rowSum (E : FVec Ideal S2x128x2x4x128x641 .f32) : FVec Ideal S2x128x2x4x128 .f32 :=
  Host.reduceAdd E (constant S_ .f32 0x00000000#32) reducesTo_S2x128x2x4x128x641_S2x128x2x4x128_d5 h_S_

/-- A row's entries divided by the row's number. -/
def rowDiv (E : FVec Ideal S2x128x2x4x128x641 .f32) (D : FVec Ideal S2x128x2x4x128 .f32) : FVec Ideal S2x128x2x4x128x641 .f32 :=
  Host.divf E (broadcastInDim S2x128x2x4x128x641 ![0, 1, 2, 3, 4, 5] bcast_S2x128x2x4x128x1_S2x128x2x4x128x641_0_1_2_3_4_5 (broadcastInDim S2x128x2x4x128x1 ![0, 1, 2, 3, 4] bcast_S2x128x2x4x128_S2x128x2x4x128x1_0_1_2_3_4 D))

theorem v70_eq (x0 : (⟨S2x16384x8x64, .f32⟩ : BufTy).Contents (Elt Ideal)) (x1 : (⟨S2x16384x2x64, .f32⟩ : BufTy).Contents (Elt Ideal))
    (x3 : (⟨S2x256x2x64, .f32⟩ : BufTy).Contents (Elt Ideal)) (x5 : (⟨S8, .f32⟩ : BufTy).Contents (Elt Ideal)) :
    val_main_v70 x0 x1 x3 x5 = rowDiv (rowExp (val_main_v59 x0 x1 x3 x5) (rowTop (val_main_v59 x0 x1 x3 x5))) (rowSum (rowExp (val_main_v59 x0 x1 x3 x5) (rowTop (val_main_v59 x0 x1 x3 x5)))) := by
  unfold val_main_v70 val_main_v69 val_main_v68 val_main_v67 val_main_v66 val_main_v65 val_main_v64 val_main_v63 val_main_v62 val_main_v61 val_main_v60 rowDiv rowSum rowExp rowTop val_main_cst_9 val_main_cst_10 val_main_cst_11
  generalize val_main_v59 x0 x1 x3 x5 = X
  rfl

theorem rowDiv_apply (E : FVec Ideal S2x128x2x4x128x641 .f32) (D : FVec Ideal S2x128x2x4x128 .f32) (b : Fin 2) (n : Fin 128) (g : Fin 2) (h : Fin 4) (r : Fin 128) (j : Fin 641) :
    rowDiv E D (ix6 b n g h r j) = Ideal.div (E (ix6 b n g h r j)) (D (ix5 b n g h r)) := by
  pointwise [rowDiv]

theorem rowExp_apply (X : FVec Ideal S2x128x2x4x128x641 .f32) (D : FVec Ideal S2x128x2x4x128 .f32) (b : Fin 2) (n : Fin 128) (g : Fin 2) (h : Fin 4) (r : Fin 128) (j : Fin 641) :
    rowExp X D (ix6 b n g h r j) = Ideal.exp (X (ix6 b n g h r j) - D (ix5 b n g h r)) := by
  pointwise [rowExp]

theorem rowSum_apply (E : FVec Ideal S2x128x2x4x128x641 .f32) (b : Fin 2) (n : Fin 128) (g : Fin 2) (h : Fin 4) (r : Fin 128) :
    rowSum E (ix5 b n g h r) = Ideal.ofBits .f32 0x00000000#32 + ∑ k : Fin 641, E (ix6 b n g h r k) := by
  unfold rowSum
  simp only [Host.reduceAdd, Ideal.hostReduceAdd_def]
  rw [Ideal.hostReduceAdd_single reducesTo_S2x128x2x4x128x641_S2x128x2x4x128_d5 (by decide)]
  refine congrArg (_ + ·) (Finset.sum_congr rfl fun k _ => ?_)
  exact congrArg E (funext fun a => Fin.ext (by match a with | ⟨0, _⟩ => rfl | ⟨1, _⟩ => rfl | ⟨2, _⟩ => rfl | ⟨3, _⟩ => rfl | ⟨4, _⟩ => rfl | ⟨5, _⟩ => rfl))

theorem reduces_row : S2x128x2x4x128x641.Reduces [5] S2x128x2x4x128 := by decide

theorem rowMax_apply (X : FVec Ideal S2x128x2x4x128x641 .f32) (z : FVec Ideal S_ .f32) (b : Fin 2) (n : Fin 128) (g : Fin 2) (h : Fin 4) (r : Fin 128) :
    Host.reduce FloatOps.maximumf X z reducesTo_S2x128x2x4x128x641_S2x128x2x4x128_d5 h_S_ (ix5 b n g h r)
      = Finset.fold max (z (Shape.Idx.first h_S_)) (fun k : Fin 641 => X (ix6 b n g h r k)) Finset.univ := by
  rw [Host.reduce_eq_fold_single (f := FloatOps.maximumf) (h := reduces_row)]
  have e : (X ∘ reduces_row.lift (ix5 b n g h r)) = fun k : Fin 641 => X (ix6 b n g h r k) :=
    funext fun k => congrArg X (funext fun a => Fin.ext (by match a with | ⟨0, _⟩ => rfl | ⟨1, _⟩ => rfl | ⟨2, _⟩ => rfl | ⟨3, _⟩ => rfl | ⟨4, _⟩ => rfl | ⟨5, _⟩ => rfl))
  exact congrArg (fun f => Finset.fold max (z (Shape.Idx.first h_S_)) f Finset.univ) e

theorem negInf : Ideal.ofBits FTy.f32 0xFF800000#32 = (⊥ : EReal) := by
  simp [Ideal.ofBits, Ideal.ieee]

theorem negInf_apply (i : S_.Idx) : (constant S_ .f32 0xFF800000#32 : FVec Ideal S_ .f32) i = (⊥ : EReal) := negInf

theorem max_bcast_apply (z : FVec Ideal S_ .f32) (hz : ∀ i, z i = (⊥ : EReal)) (Y : FVec Ideal S2x128x2x4x128 .f32) (i : S2x128x2x4x128.Idx) :
    maximumf (broadcastInDim S2x128x2x4x128 ![] bcast_S_S2x128x2x4x128 z) Y i = Y i := by
  have e : broadcastInDim S2x128x2x4x128 ![] bcast_S_S2x128x2x4x128 z i = (⊥ : EReal) := hz _
  show max (broadcastInDim S2x128x2x4x128 ![] bcast_S_S2x128x2x4x128 z i) (Y i) = Y i
  rw [e]
  exact bot_sup_eq _

theorem rowTop_apply (X : FVec Ideal S2x128x2x4x128x641 .f32) (b : Fin 2) (n : Fin 128) (g : Fin 2) (h : Fin 4) (r : Fin 128) :
    rowTop X (ix5 b n g h r) = Finset.fold max ⊥ (fun k : Fin 641 => X (ix6 b n g h r k)) Finset.univ := by
  unfold rowTop
  rw [max_bcast_apply _ negInf_apply, rowMax_apply, negInf_apply]

end Cert.ReferenceIdeal.AttnA
end
-- ==== Proof.AttnA.RefRow.lean ====
module

public import proofs.«01_k».proof.Proof.AttnA.RefSoftmax

@[expose] public section

noncomputable section

namespace Cert.ReferenceIdeal.AttnA

open Cert.ReferenceIdeal Cert.ReferenceIdeal.Gen Cert.ReferenceIdeal.Read Idealize.ShloMosaic

/-- Softmax attention of one row as the reference computes it: the weights of all scores `S` (window, context, sink), each divided by
    their sum, then the weighted sums of the window's values `v` and the context's `vc`. -/
def rRow (S : Fin 641 → EReal) (v : Fin 384 → EReal) (vc : Fin 256 → EReal) : EReal :=
  let m := Finset.fold max ⊥ S Finset.univ
  let p := fun j => Ideal.div (Ideal.exp (S j - m)) (Ideal.ofBits .f32 0x00000000#32 + ∑ k, Ideal.exp (S k - m))
  ∑ j : Fin 384, v j * p ⟨j.val, by omega⟩ + ∑ j : Fin 256, vc j * p ⟨384 + j.val, by omega⟩

/-- The reference's weights. -/
theorem p_apply (X : FVec Ideal S2x128x2x4x128x641 .f32) (b : Fin 2) (n : Fin 128) (g : Fin 2) (h : Fin 4) (r : Fin 128) (j : Fin 641) :
    rowDiv (rowExp X (rowTop X)) (rowSum (rowExp X (rowTop X))) (ix6 b n g h r j)
      = Ideal.div (Ideal.exp (X (ix6 b n g h r j) - Finset.fold max ⊥ (fun k : Fin 641 => X (ix6 b n g h r k)) Finset.univ))
          (Ideal.ofBits .f32 0x00000000#32 + ∑ k, Ideal.exp (X (ix6 b n g h r k) - Finset.fold max ⊥ (fun k : Fin 641 => X (ix6 b n g h r k)) Finset.univ)) := by
  simp only [rowDiv_apply, rowSum_apply, rowExp_apply, rowTop_apply]

section
variable (x0 : (⟨S2x16384x8x64, .f32⟩ : BufTy).Contents (Elt Ideal)) (x1 x2 : (⟨S2x16384x2x64, .f32⟩ : BufTy).Contents (Elt Ideal))
  (x3 x4 : (⟨S2x256x2x64, .f32⟩ : BufTy).Contents (Elt Ideal)) (x5 : (⟨S8, .f32⟩ : BufTy).Contents (Elt Ideal))

theorem sum72 (b : Fin 2) (n : Fin 128) (g : Fin 2) (d : Fin 64) (h : Fin 4) (r : Fin 128) :
    val_main_v72 x0 x1 x2 x3 x5 (ix6 b n g d h r)
      = ∑ j : Fin 384, val_main_v12 x2 (ix5 b n j g d) * val_main_v70 x0 x1 x3 x5 (ix6 b n g h r ⟨j.val, by omega⟩) := by
  rw [val_main_v72_apply]
  refine Finset.sum_congr rfl fun k _ => ?_
  rw [val_main_v71_apply]
  generalize val_main_v70 x0 x1 x3 x5 = P
  generalize val_main_v12 x2 = W
  congr 1
  · exact congrArg W (funext fun a => Fin.ext (by match a with | ⟨0, _⟩ => rfl | ⟨1, _⟩ => rfl | ⟨2, _⟩ => rfl | ⟨3, _⟩ => rfl | ⟨4, _⟩ => rfl))
  · exact congrArg P (funext fun a => Fin.ext (by match a with | ⟨0, _⟩ => rfl | ⟨1, _⟩ => rfl | ⟨2, _⟩ => rfl | ⟨3, _⟩ => rfl | ⟨4, _⟩ => rfl | ⟨5, _⟩ => rfl))

theorem sum75 (b : Fin 2) (n : Fin 128) (g : Fin 2) (d : Fin 64) (h : Fin 4) (r : Fin 128) :
    val_main_v75 x0 x1 x3 x4 x5 (ix6 b g d n h r)
      = ∑ j : Fin 256, x4 (ix4 b j g d) * val_main_v70 x0 x1 x3 x5 (ix6 b n g h r ⟨384 + j.val, by omega⟩) := by
  rw [val_main_v75_apply]
  refine Finset.sum_congr rfl fun k _ => ?_
  rw [val_main_v74_apply]
  generalize val_main_v70 x0 x1 x3 x5 = P
  congr 1
  · exact congrArg x4 (funext fun a => Fin.ext (by match a with | ⟨0, _⟩ => rfl | ⟨1, _⟩ => rfl | ⟨2, _⟩ => rfl | ⟨3, _⟩ => rfl))
  · exact congrArg P (funext fun a => Fin.ext (by match a with | ⟨0, _⟩ => rfl | ⟨1, _⟩ => rfl | ⟨2, _⟩ => rfl | ⟨3, _⟩ => rfl | ⟨4, _⟩ => rfl | ⟨5, _⟩ => rfl))

/-- The reference's result, one row of one head. -/
theorem result_apply (b : Fin 2) (n : Fin 128) (g : Fin 2) (h : Fin 4) (r : Fin 128) (d : Fin 64) (s : Fin 16384) (col : Fin 512)
    (hs : s.val = n.val * 128 + r.val) (hc : col.val = 64 * (g.val * 4 + h.val) + d.val) :
    val_main_v79 x0 x1 x2 x3 x4 x5 (ix3 b s col)
      = rRow (fun j => val_main_v59 x0 x1 x3 x5 (ix6 b n g h r j)) (fun j => val_main_v12 x2 (ix5 b n j g d)) (fun j => x4 (ix4 b j g d)) := by
  have e : val_main_v79 x0 x1 x2 x3 x4 x5 (ix3 b s col) = val_main_v72 x0 x1 x2 x3 x5 (ix6 b n g d h r) + val_main_v75 x0 x1 x3 x4 x5 (ix6 b g d n h r) := by
    unfold val_main_v79 val_main_v78 val_main_v77 val_main_v76 val_main_v73
    generalize val_main_v72 x0 x1 x2 x3 x5 = A
    generalize val_main_v75 x0 x1 x3 x4 x5 = B
    have e1 : (⟨s.val / 128, by omega⟩ : Fin 128) = n := Fin.ext (by show s.val / 128 = n.val; omega)
    have e2 : (⟨s.val % 128, by omega⟩ : Fin 128) = r := Fin.ext (by show s.val % 128 = r.val; omega)
    have e3 : (⟨col.val / 256, by omega⟩ : Fin 2) = g := Fin.ext (by show col.val / 256 = g.val; omega)
    have e4 : (⟨col.val % 64, by omega⟩ : Fin 64) = d := Fin.ext (by show col.val % 64 = d.val; omega)
    have e5 : (⟨col.val / 64 % 4, by omega⟩ : Fin 4) = h := Fin.ext (by show col.val / 64 % 4 = h.val; omega)
    pointwise
    rw [e1, e2, e3, e4, e5]
  rw [e, sum72, sum75, v70_eq]
  generalize val_main_v59 x0 x1 x3 x5 = X
  simp only [p_apply]
  rfl

end

end Cert.ReferenceIdeal.AttnA
end
-- ==== Proof.AttnA.Softmax.lean ====
/-
  Extended-real arithmetic: the attention row the body computes, with the division after the weighted sum, is the one the
  reference computes, with the division before it.
-/
module

public import proofs.«01_k».proof.Proof.AttnA.Row
public import proofs.«01_k».proof.Proof.AttnA.RefRow

@[expose] public section

noncomputable section

namespace Cert.AttnA

open Idealize.ShloMosaic Cert.KernelIdeal.AttnA Cert.ReferenceIdeal.AttnA

/-- A sum times a nonnegative real is the sum of the products. -/
theorem sum_mul_real {ι : Type*} (s : Finset ι) (f : ι → EReal) {c : ℝ} (hc : 0 ≤ c) : (∑ x ∈ s, f x) * (c : EReal) = ∑ x ∈ s, f x * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A sum of real values is the real sum. -/
theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The exponential of a score that is not `+∞`, shifted by a real, is a nonnegative real. -/
theorem exp_real (x : EReal) (hx : x ≠ ⊤) (M : ℝ) : ∃ w : ℝ, 0 ≤ w ∧ Ideal.exp (x - (M : EReal)) = (w : EReal) := by
  induction x with
  | bot => exact ⟨0, le_refl _, by rw [EReal.bot_sub]; simp⟩
  | top => exact absurd rfl hx
  | coe r => exact ⟨Real.exp (r - M), (Real.exp_pos _).le, by rw [← EReal.coe_sub]; exact Ideal.exp_coe _⟩

/-- The exponential of a score `-∞` is zero. -/
theorem exp_bot_sub (M : ℝ) : Ideal.exp (⊥ - (M : EReal)) = 0 := by rw [EReal.bot_sub]; simp

theorem fold_le (n : ℕ) (f : Fin n → EReal) (y : EReal) : Finset.fold max ⊥ f Finset.univ ≤ y ↔ ∀ j, f j ≤ y := by
  rw [Finset.fold_max_le]
  simp

theorem le_fold (n : ℕ) (f : Fin n → EReal) (j : Fin n) : f j ≤ Finset.fold max ⊥ f Finset.univ :=
  (fold_le n f _).mp le_rfl j

/-- A sum over the 641 scores is the sum over the window's, the context's and the sink. -/
theorem sum641 (f : Fin 641 → EReal) :
    ∑ k, f k = ∑ j : Fin 384, f ⟨j.val, by omega⟩ + ∑ j : Fin 256, f ⟨384 + j.val, by omega⟩ + f ⟨640, by omega⟩ := by
  rw [Fin.sum_univ_castSucc (n := 640) f]
  congr 1
  exact Fin.sum_univ_add (a := 384) (b := 256) (fun k => f ⟨k.val, by omega⟩)

theorem zero32 : Ideal.ofBits .f32 0x00000000#32 = (0 : EReal) := by simp [Ideal.ofBits, Ideal.ieee]

/-- The two rows are equal when the sink is real, no score is `+∞`, and the values agree wherever the score is not `-∞`. -/
theorem row_eq (S : Fin 641 → EReal) (sl : Fin 384 → EReal) (sc : Fin 256 → EReal) (s : EReal) (v v' : Fin 384 → EReal) (vc : Fin 256 → EReal)
    (h1 : ∀ j : Fin 384, S ⟨j.val, by omega⟩ = sl j) (h2 : ∀ j : Fin 256, S ⟨384 + j.val, by omega⟩ = sc j) (h3 : S ⟨640, by omega⟩ = s)
    (hsl : ∀ j, sl j ≠ ⊤) (hsc : ∀ j, sc j ≠ ⊤) (hs : ∃ a : ℝ, s = (a : EReal)) (hv : ∀ j, sl j ≠ ⊥ → v j = v' j) :
    kRow sl sc s v vc = rRow S v' vc := by
  obtain ⟨a, rfl⟩ := hs
  have hm : max (max (Finset.fold max ⊥ sl Finset.univ) (Finset.fold max ⊥ sc Finset.univ)) (a : EReal) = Finset.fold max ⊥ S Finset.univ := by
    apply le_antisymm
    · refine max_le (max_le ((fold_le _ _ _).mpr fun j => ?_) ((fold_le _ _ _).mpr fun j => ?_)) ?_
      · rw [← h1]; exact le_fold _ _ _
      · rw [← h2]; exact le_fold _ _ _
      · rw [← h3]; exact le_fold _ _ _
    · refine (fold_le _ _ _).mpr fun j => ?_
      by_cases hj : j.val < 384
      · exact le_max_of_le_left (le_max_of_le_left ((h1 ⟨j.val, hj⟩).le.trans (le_fold _ sl ⟨j.val, hj⟩)))
      · by_cases hj2 : j.val < 640
        · have : j = ⟨384 + (j.val - 384), by omega⟩ := Fin.ext (by simp; omega)
          rw [this]
          exact le_max_of_le_left (le_max_of_le_right ((h2 ⟨j.val - 384, by omega⟩).le.trans (le_fold _ sc ⟨j.val - 384, by omega⟩)))
        · have : j = ⟨640, by omega⟩ := Fin.ext (by have := j.isLt; simp; omega)
          rw [this, h3]
          exact le_max_right _ _
  have hM : ∃ M : ℝ, max (max (Finset.fold max ⊥ sl Finset.univ) (Finset.fold max ⊥ sc Finset.univ)) (a : EReal) = (M : EReal) := by
    have hb : max (max (Finset.fold max ⊥ sl Finset.univ) (Finset.fold max ⊥ sc Finset.univ)) (a : EReal) ≠ ⊥ :=
      ne_of_gt (lt_of_lt_of_le (EReal.bot_lt_coe a) (le_max_right _ _))
    have ht : max (max (Finset.fold max ⊥ sl Finset.univ) (Finset.fold max ⊥ sc Finset.univ)) (a : EReal) ≠ ⊤ := by
      refine ne_of_lt (max_lt (max_lt ?_ ?_) (EReal.coe_lt_top a))
      · rw [Finset.fold_max_lt]; exact ⟨bot_lt_top, fun j _ => lt_top_iff_ne_top.mpr (hsl j)⟩
      · rw [Finset.fold_max_lt]; exact ⟨bot_lt_top, fun j _ => lt_top_iff_ne_top.mpr (hsc j)⟩
    exact ⟨_, (EReal.coe_toReal ht hb).symm⟩
  obtain ⟨M, hM⟩ := hM
  unfold kRow rRow
  simp only [← hm, hM]
  rw [sum641, zero32, zero_add]
  simp only [h1, h2, h3]
  choose wl hl0 hl using fun j => exp_real (sl j) (hsl j) M
  choose wc hc0 hcc using fun j => exp_real (sc j) (hsc j) M
  have he : Ideal.exp ((a : EReal) - (M : EReal)) = ((Real.exp (a - M) : ℝ) : EReal) := by rw [← EReal.coe_sub]; exact Ideal.exp_coe _
  have hz : ∀ j, sl j = ⊥ → wl j = 0 := fun j hj => by
    have := hl j
    rw [hj, exp_bot_sub] at this
    exact_mod_cast this.symm
  simp only [hl, hcc, he, ← coe_sum, ← EReal.coe_add]
  have hZ : 0 < ∑ x, wl x + ∑ x, wc x + Real.exp (a - M) :=
    add_pos_of_nonneg_of_pos (add_nonneg (Finset.sum_nonneg fun j _ => hl0 j) (Finset.sum_nonneg fun j _ => hc0 j)) (Real.exp_pos _)
  generalize ∑ x, wl x + ∑ x, wc x + Real.exp (a - M) = Z at hZ
  have hi : 0 ≤ 1 / Z := by positivity
  simp only [Ideal.div_coe hZ.ne']
  rw [EReal.right_distrib_of_nonneg_of_ne_top (by exact_mod_cast hi) (EReal.coe_ne_top _), sum_mul_real _ _ hi, sum_mul_real _ _ hi]
  congr 1
  · refine Finset.sum_congr rfl fun j _ => ?_
    by_cases hj : sl j = ⊥
    · rw [hz j hj]; simp
    · rw [hv j hj, mul_comm ((wl j : ℝ) : EReal), mul_assoc]
  · refine Finset.sum_congr rfl fun j _ => ?_
    rw [mul_comm ((wc j : ℝ) : EReal), mul_assoc]

end Cert.AttnA

end
-- ==== Proof.AttnA.RowEq.lean ====
/-
  One row of one head: what the body stores at a grid point is what the reference returns there.
-/
module

public import proofs.«01_k».proof.Proof.AttnA.Reads
public import proofs.«01_k».proof.Proof.AttnA.Mask
public import proofs.«01_k».proof.Proof.AttnA.RefScores
public import proofs.«01_k».proof.Proof.AttnA.Softmax

@[expose] public section

noncomputable section

namespace Cert.KernelIdeal.AttnA

open Cert.KernelIdeal Cert.KernelIdeal.Gen Idealize.ShloMosaic Idealize.ShloMosaic.TcCoe Cert.AttnA Cert.ReferenceIdeal.Read

variable (m : (ℓ : Loc nD τ sig) → Buf (Elt Ideal) ℓ) (c : Dev nD)

theorem eighth : Ideal.ofBits FTy.f32 0x3E000000#32 = ((1 / 8 : ℝ) : EReal) := by
  simp [Ideal.ofBits, Ideal.ieee]
  rw [← EReal.coe_mul]
  norm_num

/-- Three blocks of 128 rows that read an array at the blocks before, at and after `n` read, as a window, the array itself
    where the window lies inside it. -/
theorem win_read (A B C : Vec Ideal S1x128x128 .bf16) (f : Fin 16384 → EReal) (n : Fin 128) (col : Fin 128)
    (hA : ∀ r, A (ix3 0 r col) = f (row (prv n) r)) (hB : ∀ r, B (ix3 0 r col) = f (row n r)) (hC : ∀ r, C (ix3 0 r col) = f (row (nxt n) r))
    (j : Fin 384) (h1 : 128 ≤ n.val * 128 + j.val) (h2 : n.val * 128 + j.val - 128 < 16384) :
    win A B C j col = f ⟨n.val * 128 + j.val - 128, h2⟩ := by
  have hn := n.isLt
  have hj := j.isLt
  unfold win
  by_cases a : j.val < 128
  · rw [dif_pos a, hA]
    refine congrArg f (Fin.ext ?_)
    show (n.val - 1) * 128 + j.val = n.val * 128 + j.val - 128
    omega
  · by_cases b : j.val - 128 < 128
    · rw [dif_neg a, dif_pos b, hB]
      refine congrArg f (Fin.ext ?_)
      show n.val * 128 + (j.val - 128) = n.val * 128 + j.val - 128
      omega
    · rw [dif_neg a, dif_neg b, hC]
      refine congrArg f (Fin.ext ?_)
      show min (n.val + 1) 127 * 128 + (j.val - 128 - 128) = n.val * 128 + j.val - 128
      omega

/-- A sum of products of reals, times an eighth, is a real; the eighth may be taken on the first factors. -/
theorem score_eq (q k : Fin 64 → EReal) :
    ∑ e, q e * Ideal.ofBits FTy.f32 0x3E000000#32 * k e = (∑ e, k e * q e) * Ideal.ofBits FTy.f32 0x3E000000#32 := by
  rw [eighth, sum_mul_real _ _ (by norm_num)]
  refine Finset.sum_congr rfl fun e _ => ?_
  rw [mul_comm (k e), mul_right_comm]

theorem score_real (q k : Fin 64 → EReal) (hq : ∀ e, ∃ a : ℝ, q e = (a : EReal)) (hk : ∀ e, ∃ a : ℝ, k e = (a : EReal)) :
    (∑ e, k e * q e) * Ideal.ofBits FTy.f32 0x3E000000#32 ≠ ⊤ := by
  choose a ha using hq
  choose b hb using hk
  simp only [ha, hb, eighth, ← EReal.coe_mul, ← coe_sum]
  exact EReal.coe_ne_top _

/-- The reference's result on the arrays in memory. -/
def result : (⟨Cert.ReferenceIdeal.S2x16384x512, .bf16⟩ : BufTy).Contents (Elt Ideal) :=
  val_main_v79 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Queries, keys, context keys and sink logits are reals. -/
def Fin4 : Prop :=
  (∀ b s h e, ∃ a : ℝ, qAt m c b s h e = (a : EReal)) ∧ (∀ b s g e, ∃ a : ℝ, kAt m c b s g e = (a : EReal))
    ∧ (∀ b s g e, ∃ a : ℝ, kcAt m c b s g e = (a : EReal)) ∧ (∀ h, ∃ a : ℝ, sinkAt m c h = (a : EReal))

theorem row_final (hf : Fin4 m c) (b : Fin 2) (n : Fin 128) (r : Fin 128) (h : Fin 8) (d : Fin 64)
    (wk : Fin 384 → Fin 64 → EReal) (wv : Fin 384 → EReal)
    (hk : ∀ (j : Fin 384) (e : Fin 64) (h1 : 128 ≤ n.val * 128 + j.val) (h2 : n.val * 128 + j.val - 128 < 16384),
      wk j e = kAt m c b ⟨n.val * 128 + j.val - 128, h2⟩ (kvh h) e)
    (hv : ∀ (j : Fin 384) (h1 : 128 ≤ n.val * 128 + j.val) (h2 : n.val * 128 + j.val - 128 < 16384),
      wv j = vAt m c b ⟨n.val * 128 + j.val - 128, h2⟩ (kvh h) d) :
    kRow (fun j => Scalar.select (okMask n.val (ix2 r j)) (∑ e : Fin 64, qAt m c b (row n r) h e * Ideal.ofBits FTy.f32 0x3E000000#32 * wk j e) ⊥)
        (fun j => ∑ e : Fin 64, qAt m c b (row n r) h e * Ideal.ofBits FTy.f32 0x3E000000#32 * kcAt m c b j (kvh h) e) (sinkAt m c h)
        wv (fun j => vcAt m c b j (kvh h) d)
      = result m c (ix3 b (row n r) (hcol h d)) := by
  obtain ⟨fq, fk, fkc, fs⟩ := hf
  have hh : (⟨(kvh h).val * 4 + h.val % 4, by have := h.isLt; have : (kvh h).val = h.val / 4 := rfl; omega⟩ : Fin 8) = h :=
    Fin.ext (by show h.val / 4 * 4 + h.val % 4 = h.val; omega)
  have hsel : ∀ (j : Fin 384) (x y : EReal), Scalar.select (okMask n.val (ix2 r j)) x y = if Cert.ReferenceIdeal.AttnA.Valid n.val r.val j.val then x else y := fun j x y => by
    rw [okMask_apply]
    unfold Cert.ReferenceIdeal.AttnA.Valid Scalar.select
    by_cases hc : r.val ≤ j.val ∧ j.val ≤ r.val + 256 ∧ 128 ≤ n.val * 128 + j.val ∧ n.val * 128 + j.val - 128 < 16384 <;> simp [hc]
  have hsel' : ∀ (j : Fin 384) (x y : EReal), Scalar.select (val_main_v46 (F := Ideal) (ix3 n r j)) x y = if Cert.ReferenceIdeal.AttnA.Valid n.val r.val j.val then x else y := fun j x y => by
    rw [Cert.ReferenceIdeal.AttnA.v46_apply]
    unfold Scalar.select
    by_cases hc : Cert.ReferenceIdeal.AttnA.Valid n.val r.val j.val <;> simp [hc]
  unfold result
  rw [Cert.ReferenceIdeal.AttnA.result_apply _ _ _ _ _ _ b n (kvh h) ⟨h.val % 4, by omega⟩ r d (row n r) (hcol h d) rfl
    (by show 64 * h.val + d.val = 64 * (h.val / 4 * 4 + h.val % 4) + d.val; omega)]
  refine row_eq _ _ _ _ _ _ _ (fun j => ?_) (fun j => ?_) ?_ (fun j => ?_) (fun j => ?_) (fs h) (fun j hj => ?_)
  · rw [Cert.ReferenceIdeal.AttnA.v59_win, Cert.ReferenceIdeal.AttnA.v52_apply, hsel', hsel, hh]
    by_cases hc : Cert.ReferenceIdeal.AttnA.Valid n.val r.val j.val
    · rw [if_pos hc, if_pos hc, score_eq]
      congr 1
      refine Finset.sum_congr rfl fun e _ => ?_
      rw [hk j e hc.2.2.1 hc.2.2.2, Cert.ReferenceIdeal.AttnA.v6_apply _ _ _ _ _ _ hc.2.2.1 hc.2.2.2]
      rfl
    · rw [if_neg hc, if_neg hc]
      exact negInf
  · rw [Cert.ReferenceIdeal.AttnA.v59_ctx, Cert.ReferenceIdeal.AttnA.v56_apply, hh, score_eq]
    rfl
  · rw [Cert.ReferenceIdeal.AttnA.v59_sink, hh]
    rfl
  · show Scalar.select _ _ _ ≠ _
    rw [hsel]
    by_cases hc : Cert.ReferenceIdeal.AttnA.Valid n.val r.val j.val
    · rw [if_pos hc, score_eq]
      exact score_real _ _ (fun e => fq _ _ _ _) (fun e => by rw [hk j e hc.2.2.1 hc.2.2.2]; exact fk _ _ _ _)
    · rw [if_neg hc]
      exact bot_ne_top
  · show ∑ e : Fin 64, _ ≠ _
    rw [score_eq]
    exact score_real _ _ (fun e => fq _ _ _ _) (fun e => fkc _ _ _ _)
  · have hc : Cert.ReferenceIdeal.AttnA.Valid n.val r.val j.val := by
      by_contra hc
      rw [hsel, if_neg hc] at hj
      exact hj rfl
    rw [hv j hc.2.2.1 hc.2.2.2, Cert.ReferenceIdeal.AttnA.v12_apply _ _ _ _ _ _ hc.2.2.1 hc.2.2.2]
    rfl

/-- What the body leaves in its result block at a grid point. -/
theorem block_final (hf : Fin4 m c) (t : Fin cfg0.N) (r : Fin 128) (h : Fin 8) (d : Fin 64) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t) (ix3 0 r (hcol h d))
      = result m c (ix3 (bOf t) (row (nOf t) r) (hcol h d)) := by
  rw [out_apply, ← row_final m c hf (bOf t) (nOf t) r h d
    (fun j e => win (iblk m c 2 t) (iblk m c 3 t) (iblk m c 4 t) j (gcol h e)) (fun j => win (iblk m c 5 t) (iblk m c 6 t) (iblk m c 7 t) j (gcol h d))
    (fun j e h1 h2 => win_read _ _ _ (fun s => kAt m c (bOf t) s (kvh h) e) _ _ (fun r => read2 m c t r h e) (fun r => read3 m c t r h e) (fun r => read4 m c t r h e) j h1 h2)
    (fun j h1 h2 => win_read _ _ _ (fun s => vAt m c (bOf t) s (kvh h) d) _ _ (fun r => read5 m c t r h d) (fun r => read6 m c t r h d) (fun r => read7 m c t r h d) j h1 h2)]
  have hi : (grid0.coords t 1).val = (nOf t).val := (idx t).2.1
  rw [hi, read0]
  simp only [read1, read8, read9]

end Cert.KernelIdeal.AttnA

end
-- ==== Proof.AttnA.Final.lean ====
/-
  The whole result array after the launch is the reference's result.
-/
module

public import proofs.«01_k».proof.Proof.AttnA.RowEq

@[expose] public section

noncomputable section

namespace Cert.KernelIdeal.AttnA

open Cert.KernelIdeal Cert.KernelIdeal.Gen Idealize.ShloMosaic Idealize.ShloMosaic.TcCoe Cert.AttnA Idealize.SL.Sem

variable (m : (ℓ : Loc nD τ sig) → Buf (Elt Ideal) ℓ) (c : Dev nD)

/-- The result's blocks are not cut at the array's end. -/
theorem xs (t : Fin cfg0.N) : ∀ a, win0_10.xsize (grid0.coords t) a = S1x128x512.size a := by
  revert t; decide +kernel

theorem off (t : Fin cfg0.N) : win0_10.index t 0 * win0_10.size 0 = t.val / 128 ∧ win0_10.index t 1 * win0_10.size 1 = t.val % 128 * 128
    ∧ win0_10.index t 2 * win0_10.size 2 = 0 := by
  revert t; decide +kernel

/-- An index of the result's block at a grid point lies in the array at row `128 * block + row` and the same column. -/
theorem emb_blk (t : Fin cfg0.N) (y : (win0_10.xblock (grid0.coords t)).Idx) (r : Fin 128) (col : Fin 512) (h1 : (y 1).val = r.val) (h2 : (y 2).val = col.val)
    (h0 : (y 0).val = 0) :
    ((View.whole main_v14).slice (win0_10.rect t)).emb y = ix3 (bOf t) (row (nOf t) r) col := by
  refine funext fun a => Fin.ext ?_
  match a with
  | ⟨0, _⟩ => exact (show _ = win0_10.index t 0 * win0_10.size 0 + 1 * (y 0).val from rfl).trans (by rw [(off t).1, h0]; rfl)
  | ⟨1, _⟩ => exact (show _ = win0_10.index t 1 * win0_10.size 1 + 1 * (y 1).val from rfl).trans (by rw [(off t).2.1, h1, Nat.one_mul]; rfl)
  | ⟨2, _⟩ => exact (show _ = win0_10.index t 2 * win0_10.size 2 + 1 * (y 2).val from rfl).trans (by rw [(off t).2.2, h2, Nat.one_mul, Nat.zero_add]; rfl)

/-- The block of an array that a grid point's write-back covers, read at an index. -/
theorem read_blk (G : Buf (Elt Ideal) ((c : Thread nD τ).loc main_v14)) (t : Fin cfg0.N) (y : (win0_10.xblock (grid0.coords t)).Idx) (r : Fin 128) (col : Fin 512)
    (h1 : (y 1).val = r.val) (h2 : (y 2).val = col.val) (h0 : (y 0).val = 0) :
    ((cfg0.win 10).blk t).view.read (Elt Ideal) G y = G (ix3 (bOf t) (row (nOf t) r) col) := by
  rw [← emb_blk t y r col h1 h2 h0]
  rfl

/-- A block's contents, read where the write-back moves them. -/
theorem cut_blk (X : Vec Ideal S1x128x512 .bf16) (t : Fin cfg0.N) (y : (win0_10.xblock (grid0.coords t)).Idx) (r : Fin 128) (col : Fin 512)
    (h1 : (y 1).val = r.val) (h2 : (y 2).val = col.val) (h0 : (y 0).val = 0) :
    (cfg0.win 10).cut (grid0.coords t) X y = X (ix3 0 r col) := by
  show X (win0_10.xinj (grid0.coords t) y) = _
  refine congrArg X (funext fun a => Fin.ext ?_)
  match a with
  | ⟨0, _⟩ => exact h0
  | ⟨1, _⟩ => exact h1
  | ⟨2, _⟩ => exact h2

theorem ix_bounds (t : Fin cfg0.N) (y : (win0_10.xblock (grid0.coords t)).Idx) : (y 0).val < 1 ∧ (y 1).val < 128 ∧ (y 2).val < 512 :=
  ⟨lt_of_lt_of_eq (y 0).isLt (xs t 0), lt_of_lt_of_eq (y 1).isLt (xs t 1), lt_of_lt_of_eq (y 2).isLt (xs t 2)⟩

/-- A column is a head's feature. -/
theorem hcol_split (n : Nat) (hn : n < 512) : n = (hcol ⟨n / 64, by omega⟩ ⟨n % 64, by omega⟩).val := by
  show n = 64 * (n / 64) + n % 64
  omega

/-- What a grid point writes back is its block of the reference's result. -/
theorem flushed_eq (hf : Fin4 m c) (t : Fin cfg0.N) :
    (dats m 0 c).flushed 10 t = ((cfg0.win 10).blk t).view.read (Elt Ideal) (result m c) := by
  rw [Value.flushed10_A]
  refine funext fun y => ?_
  obtain ⟨y0, y1, y2⟩ := ix_bounds t y
  have hy := block_final m c hf t ⟨(y 1).val, y1⟩ ⟨(y 2).val / 64, by omega⟩ ⟨(y 2).val % 64, by omega⟩
  have e1 := cut_blk (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t))
    t y ⟨(y 1).val, y1⟩ (hcol ⟨(y 2).val / 64, by omega⟩ ⟨(y 2).val % 64, by omega⟩) rfl (hcol_split _ y2) (by omega)
  have e2 := read_blk c (result m c) t y ⟨(y 1).val, y1⟩ (hcol ⟨(y 2).val / 64, by omega⟩ ⟨(y 2).val % 64, by omega⟩) rfl (hcol_split _ y2) (by omega)
  exact e1.trans (hy.trans e2.symm)

/-- Every index of the result lies in the block of some grid point. -/
theorem cover (i : S2x16384x512.Idx) : ∃ t : Fin cfg0.N, (cfg0.win 10).flush t = true ∧ i ∈ ((cfg0.win 10).blk t).view.set := by
  have i0 : (i 0).val < 2 := (i 0).isLt
  have i1 : (i 1).val < 16384 := (i 1).isLt
  have i2 : (i 2).val < 512 := (i 2).isLt
  have hN : (i 0).val * 128 + (i 1).val / 128 < cfg0.N := by show _ < 256; omega
  refine ⟨⟨(i 0).val * 128 + (i 1).val / 128, hN⟩, flush0_10 _, ?_⟩
  generalize hT : (⟨(i 0).val * 128 + (i 1).val / 128, hN⟩ : Fin cfg0.N) = T
  have hv : T.val = (i 0).val * 128 + (i 1).val / 128 := by rw [← hT]
  show i ∈ ((View.whole main_v14).slice (win0_10.rect T)).set
  rw [View.set_slice_whole, Rect.mem_set_unit]
  intro a
  match a with
  | ⟨0, _⟩ =>
    show win0_10.index T 0 * win0_10.size 0 ≤ (i 0 : Nat) ∧ (i 0 : Nat) < win0_10.index T 0 * win0_10.size 0 + win0_10.xsize (grid0.coords T) 0
    rw [(off T).1, xs T 0]
    show _ ∧ (i 0 : Nat) < _ + 1
    omega
  | ⟨1, _⟩ =>
    show win0_10.index T 1 * win0_10.size 1 ≤ (i 1 : Nat) ∧ (i 1 : Nat) < win0_10.index T 1 * win0_10.size 1 + win0_10.xsize (grid0.coords T) 1
    rw [(off T).2.1, xs T 1]
    show _ ∧ (i 1 : Nat) < _ + 128
    omega
  | ⟨2, _⟩ =>
    show win0_10.index T 2 * win0_10.size 2 ≤ (i 2 : Nat) ∧ (i 2 : Nat) < win0_10.index T 2 * win0_10.size 2 + win0_10.xsize (grid0.coords T) 2
    rw [(off T).2.2, xs T 2]
    show _ ∧ (i 2 : Nat) < _ + 512
    omega

/-- The result array at the end. -/
theorem final (hf : Fin4 m c) : (dats m 0 c).arrAt 10 cfg0.N = result m c :=
  (dats m 0 c).arrAt_eq_of_cover 10 (result m c) (fun t _ => flushed_eq m c hf t) cover

end Cert.KernelIdeal.AttnA

end
-- ==== Proof.AttnA.Finite.lean ====
/-
  What the precondition says: every query, key, context key and sink logit is a real.
-/
module

public import proofs.«01_k».proof.Proof.Gen.Pre_finite_scores
public import Idealize.ShloMosaic.Lib.ReduceAll
public import Idealize.ShloMosaic.Lib.Pointwise

@[expose] public section

noncomputable section

namespace Cert.AttnA

open Idealize.ShloMosaic Cert.Pre_finite_scores Cert.Pre_finite_scores.Facts

instance : Subsingleton S_.Idx := ⟨fun a b => funext fun i => i.elim0⟩

theorem inf32 : Ideal.ofBits .f32 0x7F800000#32 = (⊤ : EReal) := by simp [Ideal.ofBits, Ideal.ieee]

/-- A value whose absolute value is below `+∞` is a real. -/
theorem real_of_abs (x : EReal) (h : Ideal.cmp .olt (max x (-x)) ⊤ = 1#1) : ∃ a : ℝ, x = (a : EReal) := by
  induction x with
  | bot => exact absurd h (by simp [Ideal.cmp])
  | top => exact absurd h (by simp [Ideal.cmp])
  | coe r => exact ⟨r, rfl⟩

section
variable [Cert.Pre_finite_scores.Facts]

theorem andi_pair {x y : IVec S_ 1} (h : andi x y = fun _ => 1#1) : x ix0 = 1#1 ∧ y ix0 = 1#1 :=
  IntOp.andi_eq_one.1 (congrFun h ix0)

theorem all_real {s : Shape} (x : FVec Ideal s .f32) (hb : S_.BroadcastsInDim s (![] : Fin 0 → Fin s.rank)) (axes : List (Fin s.rank))
    (hr : s.ReducesTo axes S_)
    (h : Host.reduce IntOp.andi (cmpf .olt (Host.absf x) (broadcastInDim s ![] hb (constant S_ .f32 0x7F800000#32))) (constantI S_ 1 1#1) hr h_S_ ix0 = 1#1)
    (i : s.Idx) : ∃ a : ℝ, x i = (a : EReal) := by
  have e := Host.reduce_andi_all _ _ _ _ ix0 h i
  refine real_of_abs (x i) ?_
  rw [← inf32]
  exact e

/-- The precondition, read back. -/
theorem finite (x0 : FVec Ideal S2x16384x8x64 .f32) (x1 x2 : FVec Ideal S2x16384x2x64 .f32) (x3 x4 : FVec Ideal S2x256x2x64 .f32) (x5 : FVec Ideal S8 .f32)
    (h : Cert.Pre_finite_scores.fn (F := Ideal) x0 x1 x2 x3 x4 x5 = fun _ => 1#1) :
    (∀ i, ∃ a : ℝ, x0 i = (a : EReal)) ∧ (∀ i, ∃ a : ℝ, x1 i = (a : EReal)) ∧ (∀ i, ∃ a : ℝ, x3 i = (a : EReal)) ∧ (∀ i, ∃ a : ℝ, x5 i = (a : EReal)) := by
  simp only [fn, fn_part1] at h
  obtain ⟨h1, h5⟩ := andi_pair h
  obtain ⟨h2, h3⟩ := IntOp.andi_eq_one.1 h1
  obtain ⟨h0, h4⟩ := IntOp.andi_eq_one.1 h2
  exact ⟨all_real x0 _ _ _ h0, all_real x1 _ _ _ h4, all_real x3 _ _ _ h3, all_real x5 _ _ _ h5⟩

end

end Cert.AttnA

end
-- ==== Proof.lean ====
/-
  The proof of `Cert.Claim` (proofs.«01_k».proof.Defs).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.NormProj.Final
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Merge.Final
public import proofs.«01_k».proof.Proof.AttnA.Final
public import proofs.«01_k».proof.Proof.AttnA.Finite
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments unchanged, and every semaphore counter at zero: it has none. -/
theorem frameRI : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- Where queries, keys and sink logits are finite, the launch's result is the reference's. -/
theorem alg : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hargs
  refine ⟨fun c => Cert.KernelIdeal.AttnA.result m c, ?_, ?_⟩
  · refine (θ_run _ _ _).mono (fun r h c => ?_) (Cert.KernelIdeal.Value.run_blocks (F := Ideal) m g)
    have hf := Cert.AttnA.finite _ _ _ _ _ _ (hpre c)
    exact ⟨(h c).1.trans (Cert.KernelIdeal.AttnA.final m c
      ⟨fun b s h e => hf.1 _, fun b s g e => hf.2.1 _, fun b s g e => hf.2.2.1 _, fun h => hf.2.2.2 _⟩), (h c).2⟩
  · refine (θ_run _ _ _).mono (fun r h c => ⟨(h c).1.trans ?_, (h c).2⟩) (Cert.ReferenceIdeal.Value.run (F := Ideal) m' g')
    obtain ⟨h0, h1, h2, h3, h4, h5⟩ := hargs c
    rw [Cert.ReferenceIdeal.Read.val_main_v79_eq, h0, h1, h2, h3, h4, h5]
    rfl

/-- The projection's reference runs, leaves its arguments unchanged, and every semaphore counter at zero: it has none. -/
theorem frameRI_proj : Cert.quiescent_ProjRefIdeal (hProjRefIdeal := Cert.ProjRefIdeal.Gen.facts) := fun m g _ =>
  (θ_run _ _ _).mono (fun r h => ⟨fun c => (h c).2, sem_eq_zero_of_no_sems rfl r.2⟩) (Cert.ProjRefIdeal.Value.run (F := Ideal) m g)

/-- The normed, modulated and projected rows are the reference's, its columns in the reference's order. -/
theorem alg_proj : Cert.algebraic_ProjIdeal_ProjRefIdeal (hProjIdeal := Cert.ProjIdeal.Gen.facts) (hProjRefIdeal := Cert.ProjRefIdeal.Gen.facts) := by
  intro m g m' g' _ hargs
  refine ⟨fun c => Cert.ProjIdeal.NormProj.result m c, ?_, ?_⟩
  · refine (θ_run _ _ _).mono (fun r h c => ⟨?_, h.2 c⟩) (θ_run_and (Cert.ProjIdeal.Gen.run_main (F := Ideal) m g) (Cert.ProjIdeal.Gen.unchanged (F := Ideal) m g))
    exact ((h.1 c).2 Cert.ProjIdeal.main_v33 (Pipeline.mem_restRefs_of Cert.ProjIdeal.main_v33 (by decide) (by decide))).trans (Cert.ProjIdeal.NormProj.tail m c)
  · refine (θ_run _ _ _).mono (fun r h c => ⟨(h c).1.trans ?_, (h c).2⟩) (Cert.ProjRefIdeal.Value.run (F := Ideal) m' g')
    obtain ⟨h0, h1, h2, h3, h4⟩ := hargs c
    rw [Cert.ProjRefIdeal.Read.val_main_v20_eq, h0, h1, h2, h3, h4]
    rfl

/-- The merge's reference runs, leaves its arguments unchanged, and every semaphore counter at zero: it has none. -/
theorem frameRI_merge : Cert.quiescent_MergeRefIdeal (hMergeRefIdeal := Cert.MergeRefIdeal.Gen.facts) := fun m g _ =>
  (θ_run _ _ _).mono (fun r h => ⟨fun c => (h c).2.2, sem_eq_zero_of_no_sems rfl r.2⟩) (Cert.MergeRefIdeal.Value.run (F := Ideal) m g)

/-- The merged residual and its normed, modulated rows are the reference's. -/
theorem alg_merge : Cert.algebraic_MergeIdeal_MergeRefIdeal (hMergeIdeal := Cert.MergeIdeal.Gen.facts) (hMergeRefIdeal := Cert.MergeRefIdeal.Gen.facts) := by
  intro m g m' g' _ hargs
  refine ⟨fun c => Cert.MergeIdeal.Merge.result18 m c, fun c => Cert.MergeIdeal.Merge.result19 m c, ?_, ?_⟩
  · exact (θ_run _ _ _).mono (fun r h c => ⟨(h c).1.trans (Cert.MergeIdeal.Merge.final18 m c), (h c).2.1.trans (Cert.MergeIdeal.Merge.final19 m c), (h c).2.2⟩)
      (Cert.MergeIdeal.Value.run_blocks (F := Ideal) m g)
  · refine (θ_run _ _ _).mono (fun r h c => ⟨(h c).1.trans ?_, (h c).2.1.trans ?_, (h c).2.2⟩) (Cert.MergeRefIdeal.Value.run (F := Ideal) m' g')
    · obtain ⟨h0, h1, h2, h3, h4, h5, h6, h7, h8, h9, h10, h11, h12, h13, h14, h15⟩ := hargs c
      refine (Cert.MergeRefIdeal.Read.val_main_v50_eq (F := Ideal) _ _ _ _ _ _ _ _ _ _ _ _ _).trans ?_
      rw [h0, h1, h2, h3, h4, h5, h6, h7, h11, h12, h13, h14, h15]
      rfl
    · obtain ⟨h0, h1, h2, h3, h4, h5, h6, h7, h8, h9, h10, h11, h12, h13, h14, h15⟩ := hargs c
      refine (Cert.MergeRefIdeal.Read.val_main_v69_eq (F := Ideal) m' c).trans ?_
      rw [h0, h1, h2, h3, h4, h5, h6, h7, h8, h9, h10, h11, h12, h13, h14, h15]
      rfl

theorem claim : Cert.Claim :=
  ⟨Cert.Kernel.Gen.facts, Cert.KernelIdeal.Gen.facts, Cert.ReferenceIdeal.Gen.facts,
    Cert.Proj.Gen.facts, Cert.ProjIdeal.Gen.facts, Cert.ProjRefIdeal.Gen.facts,
    Cert.Merge.Gen.facts, Cert.MergeIdeal.Gen.facts, Cert.MergeRefIdeal.Gen.facts, Cert.Pre_finite_scores.Gen.facts,
    fun m g _ => Cert.Kernel.Gen.frame m g,
    fun m g _ => Cert.KernelIdeal.Gen.frame m g,
    fun m g _ => Cert.KernelIdeal.Gen.frame m g,
    frameRI,
    fun m g _ => frameRI m g trivial,
    fun m g _ => Cert.Proj.Gen.frame m g,
    fun m g _ => Cert.ProjIdeal.Gen.frame m g,
    frameRI_proj,
    fun m g _ => Cert.Merge.Gen.frame m g,
    fun m g _ => Cert.MergeIdeal.Gen.frame m g,
    frameRI_merge,
    IdealRules.named_const.statement Cert.KernelIdeal.κ "mask" .f32 0xF149F2CA#32 ⊥ rfl,
    alg,
    trivial,
    alg_proj,
    trivial,
    alg_merge⟩

end Cert.Proof

end
